-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1536, 768]⟩ ⟨2, ![3072, 1536]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1, 768]⟩ ⟨2, ![1, 1536]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S1x768 : Shape := ⟨2, ![1, 768]⟩
abbrev S4x384x768 : Shape := ⟨3, ![4, 384, 768]⟩
abbrev S4 : Shape := ⟨1, ![4]⟩
abbrev S_ : Shape := ⟨0, ![]⟩
abbrev S1 : Shape := ⟨1, ![1]⟩
abbrev S1x384x768 : Shape := ⟨3, ![1, 384, 768]⟩
abbrev S384x768 : Shape := ⟨2, ![384, 768]⟩
abbrev S768 : Shape := ⟨1, ![768]⟩

abbrev nBuf : Space → Nat
  | .hbm => 2
  | .vmem => 3
  | .smem => 0
  | _ => 0

abbrev bufTy : (tb : Table) → Fin (tcTables nBuf tb) → BufTy
  | .hbm, ⟨0, _⟩ => ⟨S1536x768, .f32⟩
  | .hbm, ⟨1, _⟩ => ⟨S1x768, .f32⟩
  | .local _ .vmem, ⟨0, _⟩ => ⟨S4x384x768, .f32⟩
  | .local _ .vmem, ⟨1, _⟩ => ⟨S1x768, .f32⟩
  | .local _ .vmem, ⟨2, _⟩ => ⟨S1x768, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_77 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_76 : BitVec 32 := 2#32
  let v85 : BitVec 32 := Scalar.muli v6 c2_i32_76
  let v86 : BitVec 32 := Scalar.addi c0_i32_77 v85
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_78 : BitVec 32 := 1#32
  let v87 : BitVec 32 := Scalar.muli v5 c1_i32_78
  let v88 : BitVec 32 := Scalar.addi v86 v87
  v88.toNat
-- ==== ReferenceIdeal.lean ====
abbrev S3072x1536 : Shape := ⟨2, ![3072, 1536]⟩
abbrev S_ : Shape := ⟨0, ![]⟩
abbrev S1536 : Shape := ⟨1, ![1536]⟩
abbrev S1x1536 : Shape := ⟨2, ![1, 1536]⟩

abbrev nBuf : Space → Nat
  | .hbm => 4
  | .vmem => 0
  | .smem => 0
  | _ => 0

abbrev bufTy : (tb : Table) → Fin (tcTables nBuf tb) → BufTy
  | .hbm, ⟨0, _⟩ => ⟨S3072x1536, .f32⟩
  | .hbm, ⟨1, _⟩ => ⟨S_, .f32⟩
  | .hbm, ⟨2, _⟩ => ⟨S1536, .f32⟩
  | .hbm, ⟨3, _⟩ => ⟨S1x1536, .f32⟩
  | _, _ => ⟨S3072x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Windows.lean ====
/-
The buffers of one device and the four windows its local copies move.

A device's block of `x` is 1536 rows of 768 numbers in HBM; copy `k` (of 0 … 3) brings rows 384k … 384k + 383 into
slab `k` of the staging buffer. This module names the buffers and the windows, shows that the four windows of each
buffer are disjoint (so the buffer splits into four parts and a rest), and says what a load of a slab reads after
its copy has landed.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.ColumnSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The buffers -/

/-- The device's block of `x`. -/
abbrev xM : Memref sig .tc .hbm S1536x768 .f32 := Memref.whole main_arg0
/-- The device's block of the result. -/
abbrev oM : Memref sig .tc .hbm S1x768 .f32 := Memref.whole main_v1
/-- The four staging slabs. -/
abbrev vM : Memref sig .tc .vmem S4x384x768 .f32 := Memref.whole cc0_scratch0
/-- The accumulator row. -/
abbrev aM : Memref sig .tc .vmem S1x768 .f32 := Memref.whole cc0_scratch1
/-- The landing row of the neighbour's accumulator. -/
abbrev rM : Memref sig .tc .vmem S1x768 .f32 := Memref.whole cc0_scratch2

/-! ## The windows -/

/-- 384 rows of the device's block of `x`, from the row and column `o`. -/
abbrev xWin (o : Fin 2 → ℕ) (h : ∀ a, o a + S384x768.size a ≤ S1536x768.size a) : Memref sig .tc .hbm S384x768 .f32 :=
  xM.slice (Rect.unit (s := S1536x768) o S384x768.size h) (fun _ => rfl)

/-- One slab of the staging buffer, at `o`. -/
abbrev slabR (o : Fin 3 → ℕ) (h : ∀ a, o a + S1x384x768.size a ≤ S4x384x768.size a) : Rect S4x384x768 :=
  Rect.unit (s := S4x384x768) o S1x384x768.size h

/-- The same slab as a copy addresses it: 384 rows of 768. -/
abbrev vWin (o : Fin 3 → ℕ) (h : ∀ a, o a + S1x384x768.size a ≤ S4x384x768.size a) : Memref sig .tc .vmem S384x768 .f32 :=
  (vM.slice (slabR o h) (fun _ => rfl)).squeeze S384x768 squeezes_S1x384x768_S384x768

theorem casts_rows_slab : S384x768.ShapeCasts S1x384x768 := shapeCasts_S1x384x768_S384x768.symm

omit [FloatOps F] in
/-- A view read after values were written through a re-indexing of it: the values, indexed back. -/
theorem read_write_reshape {κ : Kind} {sp : Space} {s s' : Shape} {e : EltTy} (v : View sig κ sp s e)
    (hn : s'.numel = s.numel) (f : v.ref.ty.Contents (Elt F)) (w : s'.Idx → Elt F e) :
    v.read (Elt F) ((v.reshape s' hn).write (Elt F) f w Finset.univ) = shapeCast s w hn.symm := by
  funext i
  have key := congrFun (View.read_write_univ (v := v.reshape s' hn) f w) (Shape.reshapeEquiv hn.symm i)
  refine Eq.trans ?_ key
  show _ = v.read (Elt F) _ (Shape.reshapeEquiv hn (Shape.reshapeEquiv hn.symm i))
  rw [Shape.reshapeEquiv_reshapeEquiv, Shape.reshapeEquiv_self]

/-- A slab loaded after rows `w` were copied into it holds `w`. -/
theorem load_slab (o : Fin 3 → ℕ) (h : ∀ a, o a + S1x384x768.size a ≤ S4x384x768.size a) (f : (cc0_scratch0 : Ref sig .tc).ty.Contents (Elt F))
    (w : S384x768.Idx → Elt F .f32) :
    (vM : Memref sig .tc .vmem S4x384x768 .f32).view.readAt (Elt F) (slabR o h).toLoadRect ((vWin o h).view.write (Elt F) f w Finset.univ)
      = shapeCast S1x384x768 w casts_rows_slab :=
  read_write_reshape (vM.view.slice (slabR o h)) _ f w

omit [FloatOps F] in
/-- The elements of a window of `x` are its rectangle; -/
theorem xWin_set (o : Fin 2 → ℕ) (h) : (xWin o h).view.set = (Rect.unit (s := S1536x768) o S384x768.size h).set :=
  View.set_slice_whole main_arg0 _
/-- and those of a slab the slab's. -/
theorem vWin_set (o : Fin 3 → ℕ) (h) : (vWin o h).view.set = (slabR o h).set :=
  (View.set_reshape _ _).trans (View.set_slice_whole cc0_scratch0 _)

/-- Two windows of `x` whose row ranges do not meet are disjoint. -/
theorem xWin_disjoint (o o' : Fin 2 → ℕ) (h h') (hd : o 0 + 384 ≤ o' 0 ∨ o' 0 + 384 ≤ o 0) :
    Disjoint (xWin o h).view.set (xWin o' h').view.set := by
  rw [xWin_set, xWin_set]; exact Rect.unit_disjoint (s := S1536x768) 0 hd
/-- Two slabs at different numbers are disjoint. -/
theorem vWin_disjoint (o o' : Fin 3 → ℕ) (h h') (hd : o 0 + 1 ≤ o' 0 ∨ o' 0 + 1 ≤ o 0) :
    Disjoint (vWin o h).view.set (vWin o' h').view.set := by
  rw [vWin_set, vWin_set]; exact Rect.unit_disjoint (s := S4x384x768) 0 hd

/-! ## Splitting a buffer into four windows and a rest -/

section Split

variable {Ix : Type} [DecidableEq Ix] {Name : Type} [DecidableEq Name] {U : Type} [URA U] {Lvl : Type}

local notation "𝕄" => MT nD τ sig Ix (Elt F) Name U Lvl

/-- A buffer held whole is four disjoint parts of it and the rest, -/
theorem split_four {ℓ : Loc nD τ sig} (A B C D : Finset (Idx ℓ)) (hB : Disjoint A B) (hC : Disjoint A C) (hC' : Disjoint B C)
    (hD : Disjoint A D) (hD' : Disjoint B D) (hD'' : Disjoint C D) (f : Buf (Elt F) ℓ) :
    (ℓ ↦{fullShare} f : sProp 𝕄)
      ⊣⊢ iprop((ℓ ↦[A]{fullShare} f) ∗ (ℓ ↦[B]{fullShare} f) ∗ (ℓ ↦[C]{fullShare} f) ∗ (ℓ ↦[D]{fullShare} f)
          ∗ ℓ ↦[(((Finset.univ \ A) \ B) \ C) \ D]{fullShare} f) := by
  have sub {S T X : Finset (Idx ℓ)} (h : X ⊆ S) (h' : Disjoint T X) : X ⊆ S \ T :=
    Finset.subset_sdiff.mpr ⟨h, h'.symm⟩
  have h1 : A ⊆ Finset.univ := Finset.subset_univ _
  have h2 : B ⊆ Finset.univ \ A := sub (Finset.subset_univ _) hB
  have h3 : C ⊆ (Finset.univ \ A) \ B := sub (sub (Finset.subset_univ _) hC) hC'
  have h4 : D ⊆ ((Finset.univ \ A) \ B) \ C := sub (sub (sub (Finset.subset_univ _) hD) hD') hD''
  exact (pointsTo_split_subset h1).trans (sep_congr_right ((pointsTo_split_subset h2).trans
    (sep_congr_right ((pointsTo_split_subset h3).trans (sep_congr_right (pointsTo_split_subset h4))))))

/-- and four disjoint parts and the rest, each at contents of its own, are the buffer whole at some contents. -/
theorem join_four {ℓ : Loc nD τ sig} (A B C D : Finset (Idx ℓ)) (hB : Disjoint A B) (hC : Disjoint A C) (hC' : Disjoint B C)
    (hD : Disjoint A D) (hD' : Disjoint B D) (hD'' : Disjoint C D) (f₁ f₂ f₃ f₄ f₅ : Buf (Elt F) ℓ) :
    iprop((ℓ ↦[A]{fullShare} f₁) ∗ (ℓ ↦[B]{fullShare} f₂) ∗ (ℓ ↦[C]{fullShare} f₃) ∗ (ℓ ↦[D]{fullShare} f₄)
          ∗ ℓ ↦[(((Finset.univ \ A) \ B) \ C) \ D]{fullShare} f₅)
      ⊢ (iprop(∃ g, ℓ ↦{fullShare} g) : sProp 𝕄) := by
  have sub {S T X : Finset (Idx ℓ)} (h : X ⊆ S) (h' : Disjoint T X) : X ⊆ S \ T :=
    Finset.subset_sdiff.mpr ⟨h, h'.symm⟩
  have h1 : A ⊆ Finset.univ := Finset.subset_univ _
  have h2 : B ⊆ Finset.univ \ A := sub (Finset.subset_univ _) hB
  have h3 : C ⊆ (Finset.univ \ A) \ B := sub (sub (Finset.subset_univ _) hC) hC'
  have h4 : D ⊆ ((Finset.univ \ A) \ B) \ C := sub (sub (sub (Finset.subset_univ _) hD) hD') hD''
  iintro ⟨H1, H2, H3, H4, H5⟩
  ihave H := (pointsTo_join_subset h4) $$ [H4 H5]
  · isplitl [H4] <;> iassumption
  ihave H := (pointsTo_join_subset h3) $$ [H3 H]
  · isplitl [H3] <;> iassumption
  ihave H := (pointsTo_join_subset h2) $$ [H2 H]
  · isplitl [H2] <;> iassumption
  ihave H := (pointsTo_join_subset h1) $$ [H1 H]
  · isplitl [H1] <;> iassumption
  iexists _; iexact H

end Split

end Cert.ColumnSum

end
-- ==== Proof.Contents.lean ====
/-
What each buffer of a device holds at each moment of the run.

A device brings the four row groups of its block of `x` into the staging slabs, adds each group's rows into a row of
768 numbers in turn, and so ends with the column sums of its whole block (`part`). It then sends that row to the
device that has the other rows of the same columns (`peer`) and adds the row it receives to its own (`total`).
-/
module

public import proofs.«01_k».proof.Proof.Windows

@[expose] public section

noncomputable section

namespace Cert.ColumnSum

open Cert.KernelIdeal Cert.KernelIdeal.Gen
open Idealize.ShloMosaic
open Idealize.ShloMosaic.TcCoe

variable {F : FTy → Type} [FloatOps F]

/-! ## The two devices of one column block -/

set_option backward.proofsInPublic true in
/-- The device with the other half of the rows: devices 0 and 2 are one pair, 1 and 3 the other. -/
def peer (c : Dev nD) : Dev nD := ⟨(c.val + 2) % 4, Nat.mod_lt _ (by decide)⟩

theorem peer_peer (c : Dev nD) : peer (peer c) = c := by revert c; decide
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

/-- Passing to the peer, as a permutation of the devices. -/
def swap : Dev nD ≃ Dev nD := ⟨peer, peer, peer_peer, peer_peer⟩

/-! ## The rows -/

variable (m : (ℓ : Loc nD τ sig) → Buf (Elt F) ℓ)

/-- The 384 rows of device `c`'s block of `x` at `o`, as a copy brings them. -/
def rows (c : Dev nD) (o : Fin 2 → ℕ) (h : ∀ a, o a + S384x768.size a ≤ S1536x768.size a) : S384x768.Idx → Elt F .f32 :=
  (xWin o h).view.read (Elt F) (m ((c : Thread nD τ).loc main_arg0))

/-- The same rows as a load of the staging slab they landed in gives them. -/
def slab (c : Dev nD) (o : Fin 2 → ℕ) (h : ∀ a, o a + S384x768.size a ≤ S1536x768.size a) : Vec F S1x384x768 .f32 :=
  shapeCast S1x384x768 (rows m c o h) casts_rows_slab

def slab0 (c : Dev nD) : Vec F S1x384x768 .f32 := slab m c ![0, 0] inb_S1536x768_S384x768_0_0
def slab1 (c : Dev nD) : Vec F S1x384x768 .f32 := slab m c ![384, 0] inb_S1536x768_S384x768_384_0
def slab2 (c : Dev nD) : Vec F S1x384x768 .f32 := slab m c ![768, 0] inb_S1536x768_S384x768_768_0
def slab3 (c : Dev nD) : Vec F S1x384x768 .f32 := slab m c ![1152, 0] inb_S1536x768_S384x768_1152_0

/-! ## The accumulator -/

/-- The accumulator after the first row group, -/
def acc1 (c : Dev nD) : Vec F S1x768 .f32 := k0_pay3 (slab0 m c)
/-- after two, -/
def acc2 (c : Dev nD) : Vec F S1x768 .f32 := k0_pay5 (k0_pay4 (acc1 m c) (slab1 m c))
/-- after three, -/
def acc3 (c : Dev nD) : Vec F S1x768 .f32 := k0_pay6 (acc2 m c) (slab2 m c)
/-- and after all four: the column sums of the device's block. -/
def part (c : Dev nD) : Vec F S1x768 .f32 := k0_pay1 (k0_pay7 (acc3 m c) (slab3 m c))
/-- The device's result: its own column sums and its peer's, added. -/
def total (c : Dev nD) : Vec F S1x768 .f32 := k0_pay2 (part m c) (part m (peer c))

/-! ## Loads and stores of a whole row -/

/-- The one rectangle the row buffers are accessed through: the whole row. -/
abbrev rowR : Rect S1x768 := Rect.unit (s := S1x768) ![0, 0] S1x768.size inb_S1x768_S1x768_0_0

omit [FloatOps F] in
theorem origin : (![0, 0] : Fin 2 → Nat) = fun _ => 0 := funext fun a => by fin_cases a <;> rfl

omit [FloatOps F] in
/-- A load of the accumulator reads what it holds; -/
theorem load_acc (f : (cc0_scratch1 : Ref sig .tc).ty.Contents (Elt F)) :
    (aM : Memref sig .tc .vmem S1x768 .f32).view.readAt (Elt F) rowR.toLoadRect f = f :=
  Memref.readAt_unit_zero (Elt F) cc0_scratch1 origin _ f
omit [FloatOps F] in
/-- so does a load of the landing row; -/
theorem load_landed (f : (cc0_scratch2 : Ref sig .tc).ty.Contents (Elt F)) :
    (rM : Memref sig .tc .vmem S1x768 .f32).view.readAt (Elt F) rowR.toLoadRect f = f :=
  Memref.readAt_unit_zero (Elt F) cc0_scratch2 origin _ f
omit [FloatOps F] in
/-- a store to the accumulator replaces what it holds. -/
theorem store_acc (f w : (cc0_scratch1 : Ref sig .tc).ty.Contents (Elt F)) :
    ((aM : Memref sig .tc .vmem S1x768 .f32).access rowR : View sig .tc _ _ _).write (Elt F) f w Finset.univ = w :=
  Memref.write_access_unit_zero_univ (Elt F) cc0_scratch1 origin _ f w

omit [FloatOps F] in
/-- The accumulator copied onto a landing row: the row is the accumulator. -/
theorem copy_row (c : Dev nD) (fd : Buf (Elt F) ((rM : Memref sig .tc .vmem S1x768 .f32).view.loc (c : Thread nD τ)))
    (fs : (cc0_scratch1 : Ref sig .tc).ty.Contents (Elt F)) :
    (rM : Memref sig .tc .vmem S1x768 .f32).view.write (Elt F) fd ((aM : Memref sig .tc .vmem S1x768 .f32).view.read (Elt F) fs) Finset.univ = fs := by
  show (View.whole cc0_scratch2).write (Elt F) fd ((View.whole cc0_scratch1).read (Elt F) fs) Finset.univ = fs
  rw [View.read_whole]
  exact View.write_whole_univ _ _ _

omit [FloatOps F] in
/-- The accumulator copied onto the result: the result is the accumulator. -/
theorem copy_out (c : Dev nD) (fd : Buf (Elt F) ((oM : Memref sig .tc .hbm S1x768 .f32).view.loc (c : Thread nD τ)))
    (fs : (cc0_scratch1 : Ref sig .tc).ty.Contents (Elt F)) :
    (oM : Memref sig .tc .hbm S1x768 .f32).view.write (Elt F) fd ((aM : Memref sig .tc .vmem S1x768 .f32).view.read (Elt F) fs) Finset.univ = fs := by
  show (View.whole main_v1).write (Elt F) fd ((View.whole cc0_scratch1).read (Elt F) fs) Finset.univ = fs
  rw [View.read_whole]
  exact View.write_whole_univ _ _ _

end Cert.ColumnSum

end
-- ==== Proof.Schedule.lean ====
/-
Who waits on each semaphore, who raises it, by how much, and what each arrival hands over.

Per device `c`, with `p = peer c` and `N` what the transfer of one row adds to a counter:

  barrier        raised by 1 by `p`, at the start of `p`'s body; `c` waits for 1 before it sends.
                 Hands `c` the landing row of `p` (any contents) and that `p`'s receive count starts at its first round.
  send           raised by N when `c`'s row has left; `c` waits for it after sending.
                 Hands `c` its accumulator back, at `part c`.
  receive        raised by N when `p`'s row has arrived at `c`; `c` waits for it last of the three.
                 Hands `c` its landing row, at `part p`.
  load 0 … 3     raised by `c`'s own four copies and waited for by `c` itself: row group `k` into slab `k`.
  out            raised by `c`'s own copy of the accumulator to the result, and waited for by `c`.

The last five are touched by one device only, and are treated where they are used. The first three are shared, and
this module fixes their schedule: one round, one arrival each. Waits go up in level: load and send at 0, barrier
at 1, receive at 2; what a device still owes when it waits always lies above.
-/
module

public import proofs.«01_k».proof.Proof.Contents

@[expose] public section

noncomputable section

namespace Cert.ColumnSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the launch's own, the shared semaphores' rounds, and the counters of local copies -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb

omit [FloatOps F] in
instance er_lands : (ER : Emb UB 𝕄).LandsIn (upEmb : UEmb _ 𝕄) := by unfold ER; infer_instance

/-! ## The semaphores -/

abbrev barS : Sem sig := (SemArray.scalar (sig.barrier 0 rfl) : Sems sig S_).sem
abbrev sendS : DmaSem sig := (cc0_scratch4 : DmaSems sig S_).sem
abbrev recvS : DmaSem sig := (cc0_scratch5 : DmaSems sig S_).sem
abbrev outS : DmaSem sig := (cc0_scratch6 : DmaSems sig S_).sem
/-- The semaphore of the local copy at place `o` of the four. -/
abbrev loadS (o : Fin 1 → ℕ) (h : ∀ a, o a + S1.size a ≤ S4.size a) : DmaSem sig :=
  ((cc0_scratch3.slice (Rect.unit (s := S4) o S1.size h)).squeeze S_ squeezes_S1_S_).sem
abbrev load0 : DmaSem sig := loadS ![0] inb_S4_S1_0
abbrev load1 : DmaSem sig := loadS ![1] inb_S4_S1_1
abbrev load2 : DmaSem sig := loadS ![2] inb_S4_S1_2
abbrev load3 : DmaSem sig := loadS ![3] inb_S4_S1_3

/-- The three shared semaphores of a device: barrier, send, receive. -/
abbrev shared : Fin 3 → SemLoc sig := fun | 0 => .reg barS | 1 => .dma sendS | 2 => .dma recvS
/-- One of them, on one device. -/
abbrev cell (ck : Dev nD × Fin 3) : GSem nD τ sig := ((ck.1 : Thread nD τ), shared ck.2)
abbrev barCell (c : Dev nD) : GSem nD τ sig := cell (c, 0)
abbrev sendCell (c : Dev nD) : GSem nD τ sig := cell (c, 1)
abbrev recvCell (c : Dev nD) : GSem nD τ sig := cell (c, 2)

theorem shared_injective : Function.Injective shared := by decide
theorem cell_injective : Function.Injective (cell : Dev nD × Fin 3 → GSem nD τ sig) := fun ck ck' h =>
  Prod.ext (congrArg (fun g : GSem nD τ sig => g.1.1) h) (shared_injective (congrArg Prod.snd h))
theorem send_ne_bar : (SemLoc.dma sendS : SemLoc sig) ≠ .reg barS := fun h => by cases h
theorem recv_ne_bar : (SemLoc.dma recvS : SemLoc sig) ≠ .reg barS := fun h => by cases h
theorem send_ne_recv : (SemLoc.dma sendS : SemLoc sig) ≠ .dma recvS := by decide

/-- The credit of one row. -/
abbrev N : ℕ := (rM : Memref sig .tc .vmem S1x768 .f32).view.dmaCredit
theorem N_pos : 0 < N := View.dmaCredit_pos _ (by decide)

/-! ## What is handed over -/

/-- Device `c`'s accumulator, whole, holding `f`; -/
def accPts (c : Dev nD) (f : Buf (Elt F) ((aM : Memref sig .tc .vmem S1x768 .f32).view.loc (c : Thread nD τ))) : sProp 𝕄 :=
  (aM : Memref sig .tc .vmem S1x768 .f32).view.loc (c : Thread nD τ) ↦[(aM : Memref sig .tc .vmem S1x768 .f32).view.set]{fullShare} f
/-- its landing row. -/
def rowPts (c : Dev nD) (f : Buf (Elt F) ((rM : Memref sig .tc .vmem S1x768 .f32).view.loc (c : Thread nD τ))) : sProp 𝕄 :=
  (rM : Memref sig .tc .vmem S1x768 .f32).view.loc (c : Thread nD τ) ↦[(rM : Memref sig .tc .vmem S1x768 .f32).view.set]{fullShare} f

omit [FloatOps F] in
theorem accPts_eq (c : Dev nD) (f : Buf (Elt F) ((c : Thread nD τ).loc cc0_scratch1)) :
    accPts c f = (((c : Thread nD τ).loc cc0_scratch1) ↦{fullShare} f : sProp 𝕄) := by unfold accPts; rw [View.set_whole]
omit [FloatOps F] in
theorem rowPts_eq (c : Dev nD) (f : Buf (Elt F) ((c : Thread nD τ).loc cc0_scratch2)) :
    rowPts c f = (((c : Thread nD τ).loc cc0_scratch2) ↦{fullShare} f : sProp 𝕄) := by unfold rowPts; rw [View.set_whole]

variable (m : (ℓ : Loc nD τ sig) → Buf (Elt F) ℓ)

/-- What an arrival on semaphore `sm` of device `c` hands `c`. -/
def handed (c : Dev nD) (sm : SemLoc sig) : sProp 𝕄 :=
  if sm = .reg barS then iprop((∃ f, rowPts (peer c) f) ∗ reached ER (recvCell (peer c)) 0)
  else if sm = .dma recvS then rowPts c (part m (peer c))
  else accPts c (part m c)

instance handed_storable (c : Dev nD) (sm : SemLoc sig) : BI.Storable (upEmb : UEmb _ 𝕄) (handed (F := F) m c sm) := by
  unfold handed rowPts accPts
  (repeat' split) <;> infer_instance

theorem handed_bar (c : Dev nD) :
    handed m c (.reg barS) = (iprop((∃ f, rowPts (peer c) f) ∗ reached ER (recvCell (peer c)) 0) : sProp 𝕄) := if_pos rfl
theorem handed_recv (c : Dev nD) : handed m c (.dma recvS) = (rowPts c (part m (peer c)) : sProp 𝕄) := by
  unfold handed; rw [if_neg recv_ne_bar, if_pos rfl]
theorem handed_send (c : Dev nD) : handed m c (.dma sendS) = (accPts c (part m c) : sProp 𝕄) := by
  unfold handed; rw [if_neg send_ne_bar, if_neg send_ne_recv]

/-! ## The schedule -/

/-- One round of one arrival on each shared semaphore: one unit on a barrier, a row's credit on the others. -/
def plan : Rounds.Schedule (GSem nD τ sig) Unit 𝕄 where
  duties g r := if r = 0 ∧ ∃ ck, g = cell ck then {()} else ∅
  unitless _ := False
  amount g _ _ := if g.2 = .reg barS then 1 else N
  payload g _ _ := handed m g.1.1 g.2
  amount_pos g _ _ _ := by split; exacts [Nat.one_pos, N_pos]

instance plan_storable (g : GSem nD τ sig) (r : ℕ) (d : Unit) :
    BI.Storable (upEmb : UEmb _ 𝕄) ((plan (F := F) m).payload g r d) := handed_storable m g.1.1 g.2

theorem plan_duties (ck : Dev nD × Fin 3) : (plan (F := F) m).duties (cell ck) 0 = {()} := if_pos ⟨rfl, ck, rfl⟩
theorem plan_mem (ck : Dev nD × Fin 3) : () ∈ (plan (F := F) m).duties (cell ck) 0 := by
  rw [plan_duties]; exact Finset.mem_singleton_self _
theorem plan_later (g : GSem nD τ sig) (r : ℕ) (hr : 1 ≤ r) : (plan (F := F) m).duties g r = ∅ :=
  if_neg fun h => absurd h.1 (Nat.pos_iff_ne_zero.mp hr)
theorem plan_bar (c : Dev nD) (d : Unit) : (plan (F := F) m).amount (barCell c) 0 d = 1 := by dsimp only [plan]; exact if_pos rfl
theorem plan_send (c : Dev nD) (d : Unit) : (plan (F := F) m).amount (sendCell c) 0 d = N := by dsimp only [plan]; exact if_neg send_ne_bar
theorem plan_recv (c : Dev nD) (d : Unit) : (plan (F := F) m).amount (recvCell c) 0 d = N := by dsimp only [plan]; exact if_neg recv_ne_bar

/-- A round is complete when its one arrival is; -/
theorem plan_expect (ck : Dev nD × Fin 3) : (plan (F := F) m).expect (cell ck) 0 = (plan (F := F) m).amount (cell ck) 0 () := by
  unfold Schedule.expect Schedule.amountOf; rw [plan_duties, Finset.sum_singleton]
/-- and hands over what that arrival does. -/
theorem plan_handed (ck : Dev nD × Fin 3) :
    bigSep ((plan (F := F) m).duties (cell ck) 0 \ ∅) (fun d => (plan (F := F) m).payload (cell ck) 0 d) = handed m ck.1 (shared ck.2) := by
  rw [Finset.sdiff_empty, plan_duties, bigSep_singleton]; rfl

/-! ## What a device owes, and the levels -/

/-- From the start a device owes its peer's receive semaphore a row's credit and its peer's barrier one unit. -/
def owed₀ (c : Dev nD) : CellTallies nD τ sig Unit := tallyAt (recvCell (peer c)) () N + tallyAt (barCell (peer c)) () 1

def L (g : GSem nD τ sig) : Finset Unit := if g.1.2 = .tc then {()} else ∅
def lv (g : GSem nD τ sig) (_ : Unit) : ℕ := if g.2 = .reg barS then 1 else if g.2 = .dma recvS then 2 else 0

theorem L_of_ne (g : GSem nD τ sig) (h : g.1.2 ≠ .tc) : L g = ∅ := if_neg h
theorem L_tc (c : Dev nD) (sm : SemLoc sig) : () ∈ L ((c : Thread nD τ), sm) := by
  rw [show L ((c : Thread nD τ), sm) = {()} from if_pos rfl]; exact Finset.mem_singleton_self _
theorem lv_bar (c : Dev nD) (u : Unit) : lv (barCell c) u = 1 := if_pos rfl
theorem lv_recv (c : Dev nD) (u : Unit) : lv (recvCell c) u = 2 := by unfold lv; rw [if_neg recv_ne_bar, if_pos rfl]
theorem lv_load (c : Dev nD) (s : DmaSem sig) (h : SemLoc.dma s ≠ .dma recvS) : lv ((c : Thread nD τ), .dma s) () ≤ 1 := by
  unfold lv; rw [if_neg (fun h => by cases h), if_neg h]; exact Nat.zero_le _

/-- A device that owes only its peer's receive semaphore may wait on any of its own but the receive semaphore. -/
theorem may_wait (c : Dev nD) (sm : SemLoc sig) (h : lv ((c : Thread nD τ), sm) () ≤ 1) :
    (levAts L lv : sProp 𝕄) ⊢ MayWait (c : Thread nD τ) sm () (tallyAt (recvCell (peer c)) () N) := by
  have only {g : GSem nD τ sig} {u : Unit} (hg : 0 < (tallyAt (recvCell (peer c)) () N : CellTallies nD τ sig Unit) g u) : g = recvCell (peer c) := by
    by_contra hn
    rw [tallyAt_apply, if_neg (fun h' => hn h'.1)] at hg
    exact Nat.lt_irrefl 0 hg
  exact MayOwe.of_cut (L := L) (lev := lv) 1 (fun p hp => by rw [Finset.mem_singleton.mp hp]; exact L_tc c _)
    (fun g u hg => by rw [only hg]; exact L_tc _ _)
    (fun p hp => by rw [Finset.mem_singleton.mp hp]; exact h)
    (fun g u hg => by rw [only hg, lv_recv]; decide)

end Cert.ColumnSum

end
-- ==== Proof.Copies.lean ====
/-
The steps of a device's own copies: starting one, waiting for it, loading the slab it filled; and the steps that touch
the accumulator.

Each is stated once for a general window and used for the four row groups in turn.
-/
module

public import proofs.«01_k».proof.Proof.Schedule

@[expose] public section

noncomputable section

namespace Cert.ColumnSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

abbrev 𝒱₀ : Variants := Variants.none

/-- The counters of local copies. -/
abbrev EC : UEmb Counters (MT nD τ sig Unit (Elt F) ℕ UU ℕ) := countersEmb

/-- Device `c`'s core running `p`, to end with `Q` of what `p` returns. -/
abbrev Run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ)

/-! ## The row groups -/

/-- The row group at `o` of device `c`'s block of `x`, unchanged since launch. -/
def rowsPts (c : Dev nD) (o : Fin 2 → ℕ) (h : ∀ a, o a + S384x768.size a ≤ S1536x768.size a) : sProp 𝕄 :=
  (xWin o h).view.loc (c : Thread nD τ) ↦[(xWin o h).view.set]{fullShare} m ((c : Thread nD τ).loc main_arg0)

/-- The slab at `o` of device `c`'s staging buffer, holding `f` there. -/
def slabPts (c : Dev nD) (o : Fin 3 → ℕ) (h : ∀ a, o a + S1x384x768.size a ≤ S4x384x768.size a)
    (f : Buf (Elt F) ((vWin o h).view.loc (c : Thread nD τ))) : sProp 𝕄 :=
  (vWin o h).view.loc (c : Thread nD τ) ↦[(vWin o h).view.set]{fullShare} f

/-- What the slab's buffer holds once the row group at `o` has landed on `f`. -/
def filled (c : Dev nD) (o : Fin 2 → ℕ) (h : ∀ a, o a + S384x768.size a ≤ S1536x768.size a) (o' : Fin 3 → ℕ)
    (h' : ∀ a, o' a + S1x384x768.size a ≤ S4x384x768.size a) (f : Buf (Elt F) ((vWin o' h').view.loc (c : Thread nD τ))) :
    Buf (Elt F) ((vWin o' h').view.loc (c : Thread nD τ)) :=
  (vWin o' h').view.write (Elt F) f (rows m c o h) Finset.univ

/-- The credit of one slab. -/
abbrev Nslab (o : Fin 3 → ℕ) (h : ∀ a, o a + S1x384x768.size a ≤ S4x384x768.size a) : ℕ := (vWin o h).view.dmaCredit

omit [FloatOps F] in
theorem slab_credit (o : Fin 3 → ℕ) (h : ∀ a, o a + S1x384x768.size a ≤ S4x384x768.size a) (s : DmaSem sig) :
    (vWin o h).view.amount (.dma s) = Nslab o h := rfl

/-- A copy of a row group under way: it will hand back the rows and the filled slab. -/
def flying (c : Dev nD) (s : DmaSem sig) (o : Fin 2 → ℕ) (h : ∀ a, o a + S384x768.size a ≤ S1536x768.size a) (o' : Fin 3 → ℕ)
    (h' : ∀ a, o' a + S1x384x768.size a ≤ S4x384x768.size a) (f : Buf (Elt F) ((vWin o' h').view.loc (c : Thread nD τ))) : sProp 𝕄 :=
  Transfers.Flight EC (c : Thread nD τ) (.dma s) () (Nslab o' h') iprop(slabPts c o' h' (filled m c o h o' h' f) ∗ rowsPts m c o h)

variable {α : Type}

/-- Starting a copy of a row group into a slab. -/
theorem wp_start (c : Dev nD) (s : DmaSem sig) (o : Fin 2 → ℕ) (h) (o' : Fin 3 → ℕ) (h') (f : Buf (Elt F) ((vWin o' h').view.loc (c : Thread nD τ)))
    {hsrc : (xWin o h).view.WordExact} {hdst : (vWin o' h').view.WordExact}
    {hsem : DmaTarget.Typed (nD := nD) (τ := τ) (p := (.tc : Proc τ)) .hbm (.dma s) (.here (vWin o' h'))} {k : PUnit → Prog (TpuEff nD τ sig (Elt F) Λ₀ .tc) α} {Q : α → sProp 𝕄} :
    iprop(rowsPts m c o h ∗ slabPts c o' h' f ∗ semVal ((c : Thread nD τ), .dma s) 0)
      ⊢ iprop((flying m c s o h o' h' f -∗ Run c (k ⟨⟩) Q)
          -∗ Run c (.op (.enqueueDma (xWin o h) (.here (vWin o' h')) (.dma s) hsrc hdst hsem) k) Q) :=
  Transfers.wp_dmaLocal (src := xWin o h) (via := .same) (dst := vWin o' h') (sm := .dma s) (fs := m ((c : Thread nD τ).loc main_arg0)) (fd := f)
    (Sd := (vWin o' h').view.set) EC 𝒱₀ (c : Thread nD τ) none () (Nslab o' h') (slab_credit o' h' s) (View.dmaCredit_pos _ (by decide)) (Finset.Subset.refl _)

/-- Waiting for it. -/
theorem wp_land (c : Dev nD) (s : DmaSem sig) (o : Fin 2 → ℕ) (h) (o' : Fin 3 → ℕ) (h') (f : Buf (Elt F) ((vWin o' h').view.loc (c : Thread nD τ)))
    {hsrc : (xWin o h).view.WordExact} {hdst : (vWin o' h').view.WordExact} {k : PUnit → Prog (TpuEff nD τ sig (Elt F) Λ₀ .tc) α} {Q : α → sProp 𝕄}
    (hs : lv ((c : Thread nD τ), .dma s) () ≤ 1) (W : Waits sig Unit) :
    iprop(levAts L lv ∗ flying m c s o h o' h' f ∗ owes (c : Thread nD τ) (tallyAt (recvCell (peer c)) () N) W)
      ⊢ iprop(((slabPts c o' h' (filled m c o h o' h' f) ∗ rowsPts m c o h ∗ semVal ((c : Thread nD τ), .dma s) 0
              ∗ owes (c : Thread nD τ) (tallyAt (recvCell (peer c)) () N) (insert (SemLoc.dma s, ()) W))
            -∗ Run c (k ⟨⟩) Q)
          -∗ Run c (.op (.waitDma2 s (xWin o h) (vWin o' h') hsrc hdst) k) Q) := by
  unfold flying
  iintro ⟨Hlev, Hfl, HO⟩ Hk
  iapply (Transfers.wp_waitLocalO EC 𝒱₀ (c : Thread nD τ) none () (N := Nslab o' h') rfl) $$ [Hlev Hfl HO]
  · isplitl [Hfl]; · iexact Hfl
    isplitl [HO]; · iexact HO
    iapply (may_wait (F := F) c _ hs); iexact Hlev
  iintro ⟨⟨Hv, Hx⟩, Hs, HO⟩
  iapply Hk
  isplitl [Hv]; · iexact Hv
  isplitl [Hx]; · iexact Hx
  isplitl [Hs] <;> iassumption

/-- Loading a slab after the row group at `o` has landed in it: the rows of the group. -/
theorem wp_load_slab (c : Dev nD) (o : Fin 2 → ℕ) (h) (o' : Fin 3 → ℕ) (h') (f : Buf (Elt F) ((vWin o' h').view.loc (c : Thread nD τ)))
    {hl : (vM : Memref sig .tc .vmem S4x384x768 .f32).view.LoadsAt (slabR o' h').toLoadRect} {k : Vec F S1x384x768 .f32 → Prog (TpuEff nD τ sig (Elt F) Λ₀ .tc) α} {Q : α → sProp 𝕄} :
    slabPts c o' h' (filled m c o h o' h' f)
      ⊢ iprop((slabPts c o' h' (filled m c o h o' h' f) -∗ Run c (k (slab m c o h)) Q)
          -∗ Run c (.op (.load vM (slabR o' h').toLoadRect hl) k) Q) := by
  have e := load_slab (F := F) o' h' f (rows m c o h)
  have hS : (vM : Memref sig .tc .vmem S4x384x768 .f32).view.setOn (slabR o' h').toLoadRect.set ⊆ (vWin o' h').view.set := by
    rw [vWin_set]; exact (Finset.map_refl (s := (slabR o' h').set)).subset
  unfold slab
  rw [← e]
  exact wp_load (m := vM) 𝒱₀ (c : Thread nD τ) none Set.univ hS

/-! ## The accumulator and the landing row -/

/-- Loading the accumulator; -/
theorem wp_load_acc (c : Dev nD) (f : Buf (Elt F) ((aM : Memref sig .tc .vmem S1x768 .f32).view.loc (c : Thread nD τ)))
    {hl : (aM : Memref sig .tc .vmem S1x768 .f32).view.LoadsAt rowR.toLoadRect} {k : Vec F S1x768 .f32 → Prog (TpuEff nD τ sig (Elt F) Λ₀ .tc) α} {Q : α → sProp 𝕄} :
    accPts c f
      ⊢ iprop((accPts c f -∗ Run c (k f) Q)
          -∗ Run c (.op (.load aM rowR.toLoadRect hl) k) Q) := by
  have h := wp_load (Γ := .empty) (defs := defs₀ (F := F)) (Q := Q) (hl := hl) (k := k) (q := fullShare) (f := f) (m := aM) 𝒱₀ (c : Thread nD τ) none Set.univ (Finset.subset_univ _)
  rw [load_acc] at h
  rw [accPts_eq]; exact h

/-- loading the landing row; -/
theorem wp_load_row (c : Dev nD) (f : Buf (Elt F) ((rM : Memref sig .tc .vmem S1x768 .f32).view.loc (c : Thread nD τ)))
    {hl : (rM : Memref sig .tc .vmem S1x768 .f32).view.LoadsAt rowR.toLoadRect} {k : Vec F S1x768 .f32 → Prog (TpuEff nD τ sig (Elt F) Λ₀ .tc) α} {Q : α → sProp 𝕄} :
    rowPts c f
      ⊢ iprop((rowPts c f -∗ Run c (k f) Q)
          -∗ Run c (.op (.load rM rowR.toLoadRect hl) k) Q) := by
  have h := wp_load (Γ := .empty) (defs := defs₀ (F := F)) (Q := Q) (hl := hl) (k := k) (q := fullShare) (f := f) (m := rM) 𝒱₀ (c : Thread nD τ) none Set.univ (Finset.subset_univ _)
  rw [load_landed] at h
  rw [rowPts_eq]; exact h

/-- storing to the accumulator. -/
theorem wp_store_acc (c : Dev nD) (f : Buf (Elt F) ((aM : Memref sig .tc .vmem S1x768 .f32).view.loc (c : Thread nD τ))) (w : Vec F S1x768 .f32)
    {hx : ((aM : Memref sig .tc .vmem S1x768 .f32).access rowR).Stores Finset.univ} {hm : (Finset.univ : Finset rowR.shape.Idx) = Finset.univ ∨ ∀ a, rowR.stride a = 1}
    {k : PUnit → Prog (TpuEff nD τ sig (Elt F) Λ₀ .tc) α} {Q : α → sProp 𝕄} :
    accPts c f
      ⊢ iprop((accPts c w -∗ Run c (k ⟨⟩) Q)
          -∗ Run c (.op (.store aM rowR w Finset.univ hx hm) k) Q) := by
  have h := wp_store (Γ := .empty) (defs := defs₀ (F := F)) (Q := Q) (hx := hx) (hm := hm) (k := k) (f := f) (w := w) (m := aM) (r := rowR) (Mk := Finset.univ)
    𝒱₀ (c : Thread nD τ) none Set.univ (Finset.subset_univ _)
  rw [store_acc] at h
  rw [accPts_eq, accPts_eq]; exact h

end Cert.ColumnSum

end
-- ==== Proof.Exchange.lean ====
/-
The steps between the two devices of a pair: the handshake on the barrier, the send of the column sums, and the two
waits that follow it.

`Records` keeps, for good, that every shared semaphore of every device follows the schedule and has reached its first
round; the steps below each use it for the semaphores they touch.
-/
module

public import proofs.«01_k».proof.Proof.Copies

@[expose] public section

noncomputable section

namespace Cert.ColumnSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 3 → ℕ)

/-- Every shared semaphore follows the schedule, under the name `K` gives it, and has reached round 0. -/
def Records : sProp 𝕄 :=
  iprop((bigSep Finset.univ fun ck : Dev nD × Fin 3 => cellInv ER (plan m) (K ck) (cell ck))
    ∗ bigSep Finset.univ fun ck : Dev nD × Fin 3 => reached ER (cell ck) 0)

instance records_persistent : BI.Persistent (Records m K) := by unfold Records; infer_instance

theorem records_inv (ck : Dev nD × Fin 3) : Records m K ⊢ cellInv ER (plan m) (K ck) (cell ck) :=
  sep_elim_left.trans (bigSep_elim (Finset.mem_univ ck))
theorem records_reached (ck : Dev nD × Fin 3) : Records m K ⊢ reached ER (cell ck) 0 :=
  sep_elim_right.trans (bigSep_elim (Finset.mem_univ ck))

variable {α : Type}

/-- Signalling the peer: the peer may now write this device's landing row. -/
theorem wp_offer (c : Dev nD) (f : Buf (Elt F) ((rM : Memref sig .tc .vmem S1x768 .f32).view.loc (c : Thread nD τ))) (W : Waits sig Unit)
    {k : PUnit → Prog (TpuEff nD τ sig (Elt F) Λ₀ .tc) α} {Q : α → sProp 𝕄} :
    iprop(Records m K ∗ rowPts c f ∗ dutyTok ER (barCell (peer c)) 0 () ∗ owes (c : Thread nD τ) (owed₀ c) W)
      ⊢ iprop((owes (c : Thread nD τ) (tallyAt (recvCell (peer c)) () N) W -∗ Run c (k ⟨⟩) Q)
          -∗ Run c (.op (.semSignal (peer c : Thread nD τ) barS 1) k) Q) := by
  iintro ⟨#HR, Hrow, Htok, HO⟩
  unfold owed₀
  iapply (Rounds.wp_signal 𝒱₀ ER (plan m) (c : Thread nD τ) none (dst := (peer c : Thread nD τ)) (κ := K (peer c, 0))
      (d := ()) (plan_mem m (peer c, 0)) (plan_bar m (peer c) ()) () (tallyAt (recvCell (peer c)) () N) rfl)
  isplitr; · iapply (records_inv m K (peer c, 0)); iexact HR
  isplitl [HO]; · iexact HO
  isplitl [Htok]; · iexact Htok
  isplitl [Hrow]
  · rw [show (plan m).payload (barCell (peer c)) 0 () = handed m (peer c) (.reg barS) from rfl, handed_bar, peer_peer]
    isplitl [Hrow]; · iexists f; iexact Hrow
    iapply (records_reached m K (c, 2)); iexact HR
  · iapply (records_reached m K (peer c, 0)); iexact HR

/-- Waiting on the barrier: the peer's landing row may now be written. -/
theorem wp_accept (c : Dev nD) (W : Waits sig Unit) {k : PUnit → Prog (TpuEff nD τ sig (Elt F) Λ₀ .tc) α} {Q : α → sProp 𝕄} :
    iprop(Records m K ∗ levAts L lv ∗ cred (tallyAt (barCell c) () 1) ∗ atPos ER (barCell c) 0 ∅ 0
        ∗ owes (c : Thread nD τ) (tallyAt (recvCell (peer c)) () N) W)
      ⊢ iprop((((∃ f, rowPts (peer c) f) ∗ atPos ER (barCell c) (0 + 1) ∅ 0
              ∗ owes (c : Thread nD τ) (tallyAt (recvCell (peer c)) () N) (insert (SemLoc.reg barS, ()) W)) -∗ Run c (k ⟨⟩) Q)
          -∗ Run c (.op (.semWait barS 1) k) Q) := by
  iintro ⟨#HR, #Hlev, Hcr, Hat, HO⟩ Hk
  iapply (Rounds.wp_wait_rest_token 𝒱₀ ER (plan m) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [Nat.zero_add]; exact ((plan_expect m (c, 0)).trans (plan_bar m c ())).symm)) $$ [Hcr HO Hat]
  · isplitr; · iapply (records_inv m K (c, 0)); iexact HR
    isplitl [Hcr]; · iexact Hcr
    isplitl [HO]; · iexact HO
    isplitr; · iapply (may_wait (F := F) c _ (lv_bar c ()).le); iexact Hlev
    iexact Hat
  iintro ⟨HO, Hat, -, Hpay⟩
  ihave Hp := (Entails.of_eq ((plan_handed m (c, 0)).trans (handed_bar m c))) $$ Hpay
  icases Hp with ⟨Hrow, -⟩
  iapply Hk
  isplitl [Hrow]; · iexact Hrow
  isplitl [Hat]; · iexact Hat
  iexact HO

/-- Sending the column sums onto the peer's landing row. -/
theorem wp_send_part (c n : Dev nD) (hn : n = peer c) {hsc : (rM : Memref sig (Dev.tc n : Thread nD τ).2.kind .vmem S1x768 .f32).view.ref.isScScratch = false}
    {hsrc : (aM : Memref sig .tc .vmem S1x768 .f32).view.WordExact} {hdst : (rM : Memref sig .tc .vmem S1x768 .f32).view.WordExact}
    {hsem : DmaTarget.Typed .vmem (.dma recvS) (.remote (Dev.tc n : Thread nD τ) (rM : Memref sig .tc .vmem S1x768 .f32) (.dma sendS) hsc)}
    {k : PUnit → Prog (TpuEff nD τ sig (Elt F) Λ₀ .tc) α} {Q : α → sProp 𝕄}
    (f : Buf (Elt F) ((rM : Memref sig .tc .vmem S1x768 .f32).view.loc (peer c : Thread nD τ))) (W : Waits sig Unit) :
    iprop(Records m K ∗ accPts c (part m c) ∗ rowPts (peer c) f ∗ dutyTok ER (sendCell c) 0 () ∗ dutyTok ER (recvCell (peer c)) 0 ()
        ∗ owes (c : Thread nD τ) (tallyAt (recvCell (peer c)) () N) W)
      ⊢ iprop(((cred (tallyAt (sendCell c) () N) ∗ owes (c : Thread nD τ) 0 W) -∗ Run c (k ⟨⟩) Q)
          -∗ Run c (.op (.enqueueDma aM (.remote (Dev.tc n : Thread nD τ) rM (.dma sendS) hsc) (.dma recvS) hsrc hdst hsem) k) Q) := by
  subst hn
  iintro ⟨#HR, Hacc, Hrow, Hts, Htr, HO⟩
  unfold accPts rowPts
  iapply (Rounds.wp_send_pointsTo 𝒱₀ ER (plan m) (c : Thread nD τ) none (κ₁ := K (c, 1)) (κ₂ := K (peer c, 2))
    (r₁ := 0) (r₂ := 0) (d₁ := ()) (d₂ := ()) (fd := f) (plan_mem m (c, 1)) (plan_mem m (peer c, 2))
    () () N rfl (plan_send m c ()) (plan_recv m (peer c) ()) 0 (by rw [zero_add]) (W := W)
    (by rw [show (plan m).payload (sendCell c) 0 () = handed m c (.dma sendS) from rfl, handed_send]; exact BI.Entails.refl _)
    (by rw [show (plan m).payload (recvCell (peer c)) 0 () = handed m (peer c) (.dma recvS) from rfl, handed_recv, peer_peer]
        unfold rowPts; rw [copy_row]))
  isplitr; · iapply (records_inv m K (c, 1)); iexact HR
  isplitr; · iapply (records_inv m K (peer c, 2)); iexact HR
  isplitl [Hacc]; · iexact Hacc
  isplitl [Hrow]; · iexact Hrow
  isplitl [HO]; · iexact HO
  isplitl [Hts]; · iexact Hts
  isplitr; · iapply (records_reached m K (c, 1)); iexact HR
  isplitl [Htr]; · iexact Htr
  iapply (records_reached m K (peer c, 2)); iexact HR

omit [FloatOps F] in
theorem acc_credit : (aM : Memref sig .tc .vmem S1x768 .f32).view.dmaCredit = N := by decide

/-- Waiting on the send or the receive semaphore (`k = 1` or `2`) for a row's credit: what the schedule hands over. -/
theorem wp_row_arrived (c : Dev nD) (k : Fin 3) (s : DmaSem sig) (hs : shared k = .dma s) (W : Waits sig Unit)
    {src dst : Memref sig .tc .vmem S1x768 .f32} {hsrc : src.view.WordExact} {hdst : dst.view.WordExact}
    (hN : dst.view.dmaCredit = N) {p : PUnit → Prog (TpuEff nD τ sig (Elt F) Λ₀ .tc) α} {Q : α → sProp 𝕄} :
    iprop(Records m K ∗ cred (tallyAt ((c : Thread nD τ), .dma s) () N) ∗ atPos ER ((c : Thread nD τ), .dma s) 0 ∅ 0 ∗ owes (c : Thread nD τ) 0 W)
      ⊢ iprop(((handed m c (.dma s) ∗ atPos ER ((c : Thread nD τ), .dma s) (0 + 1) ∅ 0
              ∗ owes (c : Thread nD τ) 0 (insert (SemLoc.dma s, ()) W)) -∗ Run c (p ⟨⟩) Q)
          -∗ Run c (.op (.waitDma2 s src dst hsrc hdst) p) Q) := by
  have hcell : ((c : Thread nD τ), SemLoc.dma s) = cell (c, k) := by unfold cell; rw [hs]
  have hexp : 0 + dst.view.dmaCredit = (plan m).expect ((c : Thread nD τ), SemLoc.dma s) 0 := by
    rw [Nat.zero_add, hN, hcell, plan_expect]
    dsimp only [plan]
    rw [if_neg (by rw [hs]; exact fun h => by cases h)]
  have hpay : bigSep ((plan m).duties ((c : Thread nD τ), SemLoc.dma s) 0 \ ∅) (fun d => (plan m).payload ((c : Thread nD τ), SemLoc.dma s) 0 d)
      = handed m c (.dma s) := by
    rw [hcell, plan_handed, hs]
  iintro ⟨#HR, Hcr, Hat, HO⟩ Hk
  iapply (Rounds.wp_wait_rest_token 𝒱₀ ER (plan m) (c : Thread nD τ) none (κ := K (c, k))
      (wpE_waitDma2_eq 𝒱₀ (c : Thread nD τ) none Set.univ) (Set.mem_univ _) () (O := 0) (W := W) (R := 0) (m := 0) (T := ∅) hexp) $$ [Hcr HO Hat]
  · isplitr; · rw [hcell]; iapply (records_inv m K (c, k)); iexact HR
    isplitl [Hcr]; · rw [hN]; iexact Hcr
    isplitl [HO]; · iexact HO
    isplitr; · rw [MayWait_zero]; iempintro
    iexact Hat
  iintro ⟨HO, Hat, -, Hpay⟩
  ihave Hp := (Entails.of_eq hpay) $$ Hpay
  iapply Hk
  isplitl [Hp]; · iexact Hp
  isplitl [Hat]; · iexact Hat
  iexact HO

/-- A shared semaphore past its one round is the device's again, at zero. -/
theorem close (ck : Dev nD × Fin 3) :
    iprop(Records m K ∗ atPos ER (cell ck) (0 + 1) ∅ 0) ⊢ |={Set.univ}=> semVal (cell ck) 0 := by
  iintro ⟨#HR, Hat⟩
  iapply (Rounds.cell_close ER (plan m) (Set.mem_univ (K ck)) (fun h => h) (R := 0 + 1) (plan_later m (cell ck)))
  isplitr; · iapply (records_inv m K ck); iexact HR
  iexact Hat

end Cert.ColumnSum

end
-- ==== Proof.Body.lean ====
/-
The body of one device, run from start to end.

`Before` is what a device holds when its body starts and `After` what it holds when the body has ended: its block of
`x` as it was, its block of the result at `total`, and all its semaphores at zero.
-/
module

public import proofs.«01_k».proof.Proof.Exchange

@[expose] public section

noncomputable section

namespace Cert.ColumnSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 3 → ℕ)

/-! ## The block of `x` as four row groups, the staging buffer as four slabs -/

abbrev rowsAt0 (c : Dev nD) : sProp 𝕄 := rowsPts m c ![0, 0] inb_S1536x768_S384x768_0_0
abbrev rowsAt1 (c : Dev nD) : sProp 𝕄 := rowsPts m c ![384, 0] inb_S1536x768_S384x768_384_0
abbrev rowsAt2 (c : Dev nD) : sProp 𝕄 := rowsPts m c ![768, 0] inb_S1536x768_S384x768_768_0
abbrev rowsAt3 (c : Dev nD) : sProp 𝕄 := rowsPts m c ![1152, 0] inb_S1536x768_S384x768_1152_0

/-- What of the block of `x` no row group covers. -/
def rowsRest (c : Dev nD) : sProp 𝕄 :=
  ((c : Thread nD τ).loc main_arg0) ↦[(((Finset.univ \ (xWin ![0, 0] inb_S1536x768_S384x768_0_0).view.set)
    \ (xWin ![384, 0] inb_S1536x768_S384x768_384_0).view.set) \ (xWin ![768, 0] inb_S1536x768_S384x768_768_0).view.set)
    \ (xWin ![1152, 0] inb_S1536x768_S384x768_1152_0).view.set]{fullShare} m ((c : Thread nD τ).loc main_arg0)

theorem rows_split (c : Dev nD) :
    (((c : Thread nD τ).loc main_arg0) ↦{fullShare} m ((c : Thread nD τ).loc main_arg0) : sProp 𝕄)
      ⊣⊢ iprop(rowsAt0 m c ∗ rowsAt1 m c ∗ rowsAt2 m c ∗ rowsAt3 m c ∗ rowsRest m c) := by
  unfold rowsAt0 rowsAt1 rowsAt2 rowsAt3 rowsPts rowsRest
  exact split_four (ℓ := (c : Thread nD τ).loc main_arg0) _ _ _ _
    (xWin_disjoint _ _ _ _ (by decide)) (xWin_disjoint _ _ _ _ (by decide)) (xWin_disjoint _ _ _ _ (by decide))
    (xWin_disjoint _ _ _ _ (by decide)) (xWin_disjoint _ _ _ _ (by decide)) (xWin_disjoint _ _ _ _ (by decide)) _

abbrev slabAt0 (c : Dev nD) (f : Buf (Elt F) ((c : Thread nD τ).loc cc0_scratch0)) : sProp 𝕄 := slabPts c ![0, 0, 0] inb_S4x384x768_S1x384x768_0_0_0 f
abbrev slabAt1 (c : Dev nD) (f : Buf (Elt F) ((c : Thread nD τ).loc cc0_scratch0)) : sProp 𝕄 := slabPts c ![1, 0, 0] inb_S4x384x768_S1x384x768_1_0_0 f
abbrev slabAt2 (c : Dev nD) (f : Buf (Elt F) ((c : Thread nD τ).loc cc0_scratch0)) : sProp 𝕄 := slabPts c ![2, 0, 0] inb_S4x384x768_S1x384x768_2_0_0 f
abbrev slabAt3 (c : Dev nD) (f : Buf (Elt F) ((c : Thread nD τ).loc cc0_scratch0)) : sProp 𝕄 := slabPts c ![3, 0, 0] inb_S4x384x768_S1x384x768_3_0_0 f

/-- What of the staging buffer no slab covers. -/
def slabRest (c : Dev nD) (f : Buf (Elt F) ((c : Thread nD τ).loc cc0_scratch0)) : sProp 𝕄 :=
  ((c : Thread nD τ).loc cc0_scratch0) ↦[(((Finset.univ \ (vWin ![0, 0, 0] inb_S4x384x768_S1x384x768_0_0_0).view.set)
    \ (vWin ![1, 0, 0] inb_S4x384x768_S1x384x768_1_0_0).view.set) \ (vWin ![2, 0, 0] inb_S4x384x768_S1x384x768_2_0_0).view.set)
    \ (vWin ![3, 0, 0] inb_S4x384x768_S1x384x768_3_0_0).view.set]{fullShare} f

theorem slabs_split (c : Dev nD) (f : Buf (Elt F) ((c : Thread nD τ).loc cc0_scratch0)) :
    (((c : Thread nD τ).loc cc0_scratch0) ↦{fullShare} f : sProp 𝕄)
      ⊢ iprop(slabAt0 c f ∗ slabAt1 c f ∗ slabAt2 c f ∗ slabAt3 c f ∗ slabRest c f) := by
  unfold slabAt0 slabAt1 slabAt2 slabAt3 slabPts slabRest
  exact (split_four (ℓ := (c : Thread nD τ).loc cc0_scratch0) _ _ _ _
    (vWin_disjoint _ _ _ _ (by decide)) (vWin_disjoint _ _ _ _ (by decide)) (vWin_disjoint _ _ _ _ (by decide))
    (vWin_disjoint _ _ _ _ (by decide)) (vWin_disjoint _ _ _ _ (by decide)) (vWin_disjoint _ _ _ _ (by decide)) f).1

theorem slabs_join (c : Dev nD) (f₀ f₁ f₂ f₃ f : Buf (Elt F) ((c : Thread nD τ).loc cc0_scratch0)) :
    iprop(slabAt0 c f₀ ∗ slabAt1 c f₁ ∗ slabAt2 c f₂ ∗ slabAt3 c f₃ ∗ slabRest c f)
      ⊢ (iprop(∃ g, ((c : Thread nD τ).loc cc0_scratch0) ↦{fullShare} g) : sProp 𝕄) := by
  unfold slabAt0 slabAt1 slabAt2 slabAt3 slabPts slabRest
  exact join_four (ℓ := (c : Thread nD τ).loc cc0_scratch0) _ _ _ _
    (vWin_disjoint _ _ _ _ (by decide)) (vWin_disjoint _ _ _ _ (by decide)) (vWin_disjoint _ _ _ _ (by decide))
    (vWin_disjoint _ _ _ _ (by decide)) (vWin_disjoint _ _ _ _ (by decide)) (vWin_disjoint _ _ _ _ (by decide)) _ _ _ _ _

/-! ## Before and after -/

/-- The semaphores a device uses alone, each at zero. -/
def alone (c : Dev nD) : sProp 𝕄 :=
  iprop(semVal ((c : Thread nD τ), .dma load0) 0 ∗ semVal ((c : Thread nD τ), .dma load1) 0 ∗ semVal ((c : Thread nD τ), .dma load2) 0
    ∗ semVal ((c : Thread nD τ), .dma load3) 0 ∗ semVal ((c : Thread nD τ), .dma outS) 0)

/-- A device's positions on its own shared semaphores, and the right to the one arrival it makes on each of three: its
    peer's barrier, its peer's receive semaphore, its own send semaphore. -/
def places (c : Dev nD) : sProp 𝕄 :=
  iprop(atPos ER (barCell c) 0 ∅ 0 ∗ atPos ER (sendCell c) 0 ∅ 0 ∗ atPos ER (recvCell c) 0 ∅ 0
    ∗ dutyTok ER (barCell (peer c)) 0 () ∗ dutyTok ER (recvCell (peer c)) 0 () ∗ dutyTok ER (sendCell c) 0 ())

/-- The credit of the arrivals a device waits for from its peer, and the levels. -/
def awaited (c : Dev nD) : sProp 𝕄 :=
  iprop(cred (tallyAt (barCell c) () 1) ∗ cred (tallyAt (recvCell c) () N) ∗ levAts L lv)

/-- The device's two arrays, `x` as at launch and the result holding `f`. -/
def arrays (c : Dev nD) (f : Buf (Elt F) ((c : Thread nD τ).loc main_v1)) : sProp 𝕄 :=
  iprop((((c : Thread nD τ).loc main_arg0) ↦{fullShare} m ((c : Thread nD τ).loc main_arg0)) ∗ (((c : Thread nD τ).loc main_v1) ↦{fullShare} f))

/-- The device's three scratch buffers, at any contents. -/
def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))

/-- What a device holds when its body starts, -/
def Before (c : Dev nD) : sProp 𝕄 :=
  iprop(places c ∗ alone c ∗ awaited c ∗ arrays m c (m ((c : Thread nD τ).loc main_v1)) ∗ scratch c)
/-- and when it has ended. -/
def After (c : Dev nD) : sProp 𝕄 :=
  iprop(arrays m c (total m c) ∗ scratch c ∗ alone c ∗ semVal (barCell c) 0 ∗ semVal (sendCell c) 0 ∗ semVal (recvCell c) 0)

/-- Copying the accumulator to the result: the result then holds what the accumulator holds. -/
theorem wp_start_out {α : Type} (c : Dev nD) (f : Buf (Elt F) ((c : Thread nD τ).loc main_v1)) (w : Vec F S1x768 .f32)
    {hsrc : (aM : Memref sig .tc .vmem S1x768 .f32).view.WordExact} {hdst : (oM : Memref sig .tc .hbm S1x768 .f32).view.WordExact}
    {hsem : DmaTarget.Typed (nD := nD) (τ := τ) (p := (.tc : Proc τ)) .vmem (.dma outS) (.here (oM : Memref sig .tc .hbm S1x768 .f32))}
    {k : PUnit → Prog (TpuEff nD τ sig (Elt F) Λ₀ .tc) α} {Q : α → sProp 𝕄} :
    iprop(accPts c w ∗ (((c : Thread nD τ).loc main_v1) ↦{fullShare} f) ∗ semVal ((c : Thread nD τ), .dma outS) 0)
      ⊢ iprop((Transfers.Flight EC (c : Thread nD τ) (.dma outS) () (oM : Memref sig .tc .hbm S1x768 .f32).view.dmaCredit
              iprop((((c : Thread nD τ).loc main_v1) ↦{fullShare} w) ∗ accPts c w) -∗ Run c (k ⟨⟩) Q)
          -∗ Run c (.op (.enqueueDma aM (.here oM) (.dma outS) hsrc hdst hsem) k) Q) := by
  have h := Transfers.wp_dmaLocal (src := aM) (via := .same) (dst := oM) (sm := .dma outS) (q := fullShare) (fs := w) (fd := f) (Sd := Finset.univ)
    (hsrc := hsrc) (hdst := hdst) (hsem := hsem) (k := k) (Q := Q) (defs := defs₀ (F := F))
    EC 𝒱₀ (c : Thread nD τ) none () (oM : Memref sig .tc .hbm S1x768 .f32).view.dmaCredit rfl (View.dmaCredit_pos _ (by decide)) (Finset.subset_univ _)
  rw [show (ReadAs.same : ReadAs (Elt F) S1x768 .f32 S1x768 .f32).apply ((aM : Memref sig .tc .vmem S1x768 .f32).view.read (Elt F) w)
    = (aM : Memref sig .tc .vmem S1x768 .f32).view.read (Elt F) w from rfl, copy_out] at h
  exact h

set_option maxHeartbeats 1600000 in
/-- The body: from `Before`, owing the peer its two arrivals, to `After`, owing nothing. -/
theorem run_body (c : Dev nD) (W : Waits sig Unit) (Q : PUnit → sProp 𝕄) :
    iprop(Records m K ∗ Before m c ∗ owes (c : Thread nD τ) (owed₀ c) W
        ∗ ((After m c ∗ ∃ W', owes (c : Thread nD τ) 0 W') -∗ Q ⟨⟩))
      ⊢ Run c (cc0_body (F := F) xM (Memref.isWhole_whole _) oM (Memref.isWhole_whole _) vM (Memref.isWhole_whole _) aM (Memref.isWhole_whole _)
          rM (Memref.isWhole_whole _) cc0_scratch3 cc0_scratch4 cc0_scratch5 cc0_scratch6) Q := by
  unfold Run
  simp only [cc0_body_eq_skeleton]; unfold cc0_body_skel
  simp only [k0_part1_eq_skeleton, k0_part2_eq_skeleton, k0_part3_eq_skeleton]
  unfold k0_part1_skel k0_part2_skel k0_part3_skel
  simp only [semSignalWord, semWaitWord, Prog.lift, Prog.bind_op, Prog.bind_ret, Prog.pure_eq_ret, wp_deviceId]
  simp only [dev1_eq c]
  unfold Before places alone awaited arrays scratch
  iintro ⟨#HR, ⟨⟨HatB, HatS, HatV, HtB, HtV, HtS⟩, ⟨Hz0, Hz1, Hz2, Hz3, HzO⟩, ⟨HcB, HcV, #Hlev⟩, ⟨Hx, Hout⟩, ⟨%fv, Hv⟩, ⟨%fa, Ha⟩, ⟨%fr, Hr⟩⟩, HO, Hk⟩
  ihave Hx := (rows_split m c).1 $$ Hx
  icases Hx with ⟨Hx0, Hx1, Hx2, Hx3, HxR⟩
  ihave Hv := (slabs_split c fv) $$ Hv
  icases Hv with ⟨Hv0, Hv1, Hv2, Hv3, HvR⟩
  ihave Ha := (Entails.of_eq (accPts_eq c fa).symm) $$ Ha
  ihave Hr := (Entails.of_eq (rowPts_eq c fr).symm) $$ Hr
  -- the signal to the peer
  iapply (wp_offer m K c fr W) $$ [Hr HtB HO]
  · isplitr; · iexact HR
    isplitl [Hr]; · iexact Hr
    isplitl [HtB] <;> iassumption
  iintro HO
  -- the four copies started
  iapply (wp_start m c load0 _ _ _ _ fv) $$ [Hx0 Hv0 Hz0]
  · isplitl [Hx0]; · iexact Hx0
    isplitl [Hv0] <;> iassumption
  iintro Hf0
  iapply (wp_start m c load1 _ _ _ _ fv) $$ [Hx1 Hv1 Hz1]
  · isplitl [Hx1]; · iexact Hx1
    isplitl [Hv1] <;> iassumption
  iintro Hf1
  iapply (wp_start m c load2 _ _ _ _ fv) $$ [Hx2 Hv2 Hz2]
  · isplitl [Hx2]; · iexact Hx2
    isplitl [Hv2] <;> iassumption
  iintro Hf2
  iapply (wp_start m c load3 _ _ _ _ fv) $$ [Hx3 Hv3 Hz3]
  · isplitl [Hx3]; · iexact Hx3
    isplitl [Hv3] <;> iassumption
  iintro Hf3
  -- each waited for and added in
  iapply (wp_land m c load0 _ _ _ _ fv (lv_load c load0 (by decide)) _) $$ [Hf0 HO]
  · isplitr; · iexact Hlev
    isplitl [Hf0] <;> iassumption
  iintro ⟨Hv0, Hx0, Hz0, HO⟩
  iapply (wp_load_slab m c _ _ _ _ fv) $$ Hv0; iintro Hv0
  iapply (wp_load_acc c fa) $$ Ha; iintro Ha
  iapply (wp_store_acc c fa (acc1 m c)) $$ Ha; iintro Ha
  iapply (wp_land m c load1 _ _ _ _ fv (lv_load c load1 (by decide)) _) $$ [Hf1 HO]
  · isplitr; · iexact Hlev
    isplitl [Hf1] <;> iassumption
  iintro ⟨Hv1, Hx1, Hz1, HO⟩
  iapply (wp_load_acc c (acc1 m c)) $$ Ha; iintro Ha
  iapply (wp_load_slab m c _ _ _ _ fv) $$ Hv1; iintro Hv1
  iapply (wp_load_acc c (acc1 m c)) $$ Ha; iintro Ha
  iapply (wp_store_acc c (acc1 m c) (acc2 m c)) $$ Ha; iintro Ha
  iapply (wp_land m c load2 _ _ _ _ fv (lv_load c load2 (by decide)) _) $$ [Hf2 HO]
  · isplitr; · iexact Hlev
    isplitl [Hf2] <;> iassumption
  iintro ⟨Hv2, Hx2, Hz2, HO⟩
  iapply (wp_load_acc c (acc2 m c)) $$ Ha; iintro Ha
  iapply (wp_load_slab m c _ _ _ _ fv) $$ Hv2; iintro Hv2
  iapply (wp_load_acc c (acc2 m c)) $$ Ha; iintro Ha
  iapply (wp_store_acc c (acc2 m c) (acc3 m c)) $$ Ha; iintro Ha
  iapply (wp_land m c load3 _ _ _ _ fv (lv_load c load3 (by decide)) _) $$ [Hf3 HO]
  · isplitr; · iexact Hlev
    isplitl [Hf3] <;> iassumption
  iintro ⟨Hv3, Hx3, Hz3, HO⟩
  iapply (wp_load_acc c (acc3 m c)) $$ Ha; iintro Ha
  iapply (wp_load_slab m c _ _ _ _ fv) $$ Hv3; iintro Hv3
  iapply (wp_load_acc c (acc3 m c)) $$ Ha; iintro Ha
  iapply (wp_store_acc c (acc3 m c) (part m c)) $$ Ha; iintro Ha
  -- the barrier
  iapply (wp_accept m K c _) $$ [HcB HatB HO]
  · isplitr; · iexact HR
    isplitr; · iexact Hlev
    isplitl [HcB]; · iexact HcB
    isplitl [HatB] <;> iassumption
  iintro ⟨⟨%fp, Hr⟩, HatB, HO⟩
  -- the column sums sent, the send and the peer's arrival waited for
  iapply (wp_send_part m K c _ (dev2_eq c) fp _) $$ [Ha Hr HtS HtV HO]
  · isplitr; · iexact HR
    isplitl [Ha]; · iexact Ha
    isplitl [Hr]; · iexact Hr
    isplitl [HtS]; · iexact HtS
    isplitl [HtV] <;> iassumption
  iintro ⟨HcS, HO⟩
  iapply (wp_row_arrived m K c 1 sendS rfl _ (src := rM) (dst := aM) acc_credit) $$ [HcS HatS HO]
  · isplitr; · iexact HR
    isplitl [HcS]; · iexact HcS
    isplitl [HatS] <;> iassumption
  iintro ⟨Ha, HatS, HO⟩
  ihave Ha := (Entails.of_eq (handed_send m c)) $$ Ha
  iapply (wp_row_arrived m K c 2 recvS rfl _ (src := aM) (dst := rM) rfl) $$ [HcV HatV HO]
  · isplitr; · iexact HR
    isplitl [HcV]; · iexact HcV
    isplitl [HatV] <;> iassumption
  iintro ⟨Hr, HatV, HO⟩
  ihave Hr := (Entails.of_eq (handed_recv m c)) $$ Hr
  -- the two rows added
  iapply (wp_load_acc c (part m c)) $$ Ha; iintro Ha
  iapply (wp_load_row c (part m (peer c))) $$ Hr; iintro Hr
  iapply (wp_load_acc c (part m c)) $$ Ha; iintro Ha
  iapply (wp_store_acc c (part m c) (total m c)) $$ Ha; iintro Ha
  -- and copied to the result
  iapply (wp_start_out c _ (total m c)) $$ [Ha Hout HzO]
  · isplitl [Ha]; · iexact Ha
    isplitl [Hout] <;> iassumption
  iintro HfO
  iapply (Transfers.wp_waitLocalO EC 𝒱₀ (c : Thread nD τ) none () rfl) $$ [HfO HO]
  · isplitl [HfO]; · iexact HfO
    isplitl [HO]; · iexact HO
    rw [MayWait_zero]; iempintro
  iintro ⟨⟨Hout, Ha⟩, HzO, HO⟩
  imod (close m K (c, 0)) $$ [HatB] with HzB
  · isplitr; · iexact HR
    iexact HatB
  imod (close m K (c, 1)) $$ [HatS] with HzS
  · isplitr; · iexact HR
    iexact HatS
  imod (close m K (c, 2)) $$ [HatV] with HzV
  · isplitr; · iexact HR
    iexact HatV
  rw [wp_ret]; imodintro
  iapply Hk
  isplitr [HO]
  · unfold After arrays scratch alone
    isplitl [Hx0 Hx1 Hx2 Hx3 HxR Hout]
    · isplitr [Hout]
      · iapply (rows_split m c).2
        isplitl [Hx0]; · iexact Hx0
        isplitl [Hx1]; · iexact Hx1
        isplitl [Hx2]; · iexact Hx2
        isplitl [Hx3] <;> iassumption
      · iexact Hout
    isplitl [Hv0 Hv1 Hv2 Hv3 HvR Ha Hr]
    · isplitl [Hv0 Hv1 Hv2 Hv3 HvR]
      · iapply (slabs_join c _ _ _ _ _)
        isplitl [Hv0]; · iexact Hv0
        isplitl [Hv1]; · iexact Hv1
        isplitl [Hv2]; · iexact Hv2
        isplitl [Hv3] <;> iassumption
      isplitl [Ha]
      · iexists (total m c); rw [← accPts_eq]; iexact Ha
      · iexists (part m (peer c)); rw [← rowPts_eq]; iexact Hr
    isplitl [Hz0 Hz1 Hz2 Hz3 HzO]
    · isplitl [Hz0]; · iexact Hz0
      isplitl [Hz1]; · iexact Hz1
      isplitl [Hz2]; · iexact Hz2
      isplitl [Hz3] <;> iassumption
    isplitl [HzB]; · iexact HzB
    isplitl [HzS] <;> iassumption
  · iexists _; iexact HO

end Cert.ColumnSum

end
-- ==== Proof.Launch.lean ====
/-
The launch: from the memory before the run to every device's `Before`, and from every device's `After` to the memory
after the run.

`run_main` is the result: on the four devices, from any memory with all counters at zero, every fair run of the
program ends, and then each device's block of `x` is what it was, its block of the result holds `total`, and every
counter is at zero.
-/
module

public import proofs.«01_k».proof.Proof.Body
public import Idealize.ShloMosaic.Lib.Pipeline.CollectiveSegs

@[expose] public section

noncomputable section

namespace Cert.ColumnSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body as the launch asks for it -/

/-- What a device starts from besides its scratch buffers: the records under some names, its places, the semaphores it
    uses alone, what it awaits, and its two arrays. -/
def Start (c : Dev nD) : sProp 𝕄 :=
  iprop((∃ K, Records m K) ∗ places c ∗ alone c ∗ awaited c ∗ arrays m c (m ((c : Thread nD τ).loc main_v1)))

/-- The program has no grid and no windows: one point, `Start` and the scratch buffers before it, `After` after it. -/
def dats (_ : Fin 1) (c : Dev nD) : Dat τ (Elt F) Unit ℕ UU ℕ cfg0 c where
  A w := w.elim0
  after w _ := w.elim0
  Φ t := match t with
    | ⟨0, _⟩ => iprop(Start m c ∗ scratch c)
    | ⟨_ + 1, _⟩ => After m c
  q _ := fullShare
  owed t := match t with
    | ⟨0, _⟩ => owed₀ c
    | ⟨_ + 1, _⟩ => 0

theorem no_windows (Φ : Fin cfg0.W → sProp 𝕄) : bigSep Finset.univ Φ = iprop(emp) := by
  rw [show (Finset.univ : Finset (Fin cfg0.W)) = ∅ from rfl]; exact bigSep_empty

/-- What the launch asks of the body. -/
theorem body_obligation (c : Dev nD) : BodyObligation (dats (F := F) m 0 c) (defs₀ (F := F)) 𝒱₀ () Set.univ := fun t => by
  rw [fin_N0 t, no_windows, no_windows]
  show iprop((Start m c ∗ scratch c) ∗ (dats m 0 c).owesAt () t0_0.castSucc ∗ emp)
    ⊢ Run c (cc0_body (F := F) xM (Memref.isWhole_whole _) oM (Memref.isWhole_whole _) vM (Memref.isWhole_whole _) aM (Memref.isWhole_whole _)
        rM (Memref.isWhole_whole _) cc0_scratch3 cc0_scratch4 cc0_scratch5 cc0_scratch6)
      fun _ => iprop(After m c ∗ (dats m 0 c).owesAt () t0_0.succ ∗ emp)
  unfold Start Dat.owesAt Pipeline.owesWithin
  rw [show (dats m 0 c).owed t0_0.castSucc = owed₀ c from rfl, show (dats m 0 c).owed t0_0.succ = 0 from rfl]
  iintro ⟨⟨⟨⟨%K, #HR⟩, Hp, Ha, Hw, Harr⟩, Hs⟩, ⟨%W, -, HO⟩, -⟩
  iapply (run_body m K c W)
  isplitr; · iexact HR
  isplitl [Hp Ha Hw Harr Hs]
  · unfold Before
    isplitl [Hp]; · iexact Hp
    isplitl [Ha]; · iexact Ha
    isplitl [Hw]; · iexact Hw
    isplitl [Harr] <;> iassumption
  isplitl [HO]; · iexact HO
  iintro ⟨Hafter, ⟨%W', HO⟩⟩
  isplitl [Hafter]; · iexact Hafter
  isplitl [HO]
  · iexists W'
    isplitr; · ipureintro; exact fun _ _ => Or.inl trivial
    iexact HO
  · iempintro

/-! ## The semaphores at launch -/

/-- The seven semaphores that belong to the kernel: four loads, send, receive, out. -/
abbrev osem : Fin 7 → SemLoc sig := fun
  | 0 => .dma load0 | 1 => .dma load1 | 2 => .dma load2 | 3 => .dma load3 | 4 => .dma sendS | 5 => .dma recvS | 6 => .dma outS

theorem ownSemFacts : Pipeline.OwnSemFacts cfg0.spec osem := by decide

/-- The kernel's own semaphores at zero: those a device uses alone, and the send and receive ones. -/
theorem own_sems (c : Dev nD) : (Pipeline.ownSems0 (Ix := Unit) (Name := ℕ) (U := UU) (Lvl := ℕ) (Val := Elt F) (τ := τ) osem c : sProp 𝕄)
    ⊣⊢ iprop(alone c ∗ semVal (sendCell c) 0 ∗ semVal (recvCell c) 0) := by
  rw [Pipeline.ownSems0_eq_of_list c osem [0, 1, 2, 3, 4, 5, 6] (by decide) (by decide)]
  unfold alone
  constructor
  · show iprop(semVal ((c : Thread nD τ), .dma load0) 0 ∗ semVal ((c : Thread nD τ), .dma load1) 0 ∗ semVal ((c : Thread nD τ), .dma load2) 0
      ∗ semVal ((c : Thread nD τ), .dma load3) 0 ∗ semVal (sendCell c) 0 ∗ semVal (recvCell c) 0 ∗ semVal ((c : Thread nD τ), .dma outS) 0) ⊢ _
    iintro ⟨H0, H1, H2, H3, H4, H5, H6⟩
    isplitr [H4 H5]
    · isplitl [H0]; · iexact H0
      isplitl [H1]; · iexact H1
      isplitl [H2]; · iexact H2
      isplitl [H3] <;> iassumption
    · isplitl [H4] <;> iassumption
  · show _ ⊢ iprop(semVal ((c : Thread nD τ), .dma load0) 0 ∗ semVal ((c : Thread nD τ), .dma load1) 0 ∗ semVal ((c : Thread nD τ), .dma load2) 0
      ∗ semVal ((c : Thread nD τ), .dma load3) 0 ∗ semVal (sendCell c) 0 ∗ semVal (recvCell c) 0 ∗ semVal ((c : Thread nD τ), .dma outS) 0)
    iintro ⟨⟨H0, H1, H2, H3, H6⟩, H4, H5⟩
    isplitl [H0]; · iexact H0
    isplitl [H1]; · iexact H1
    isplitl [H2]; · iexact H2
    isplitl [H3]; · iexact H3
    isplitl [H4]; · iexact H4
    isplitl [H5] <;> iassumption

/-- The one semaphore that does not belong to the kernel: the barrier. -/
theorem barrier_sem (c : Dev nD) : (unscopedSems0 c : sProp 𝕄) = semVal (barCell c) 0 := by
  unfold unscopedSems0; rw [bigSep_eq_bigSepL_of_eq [SemLoc.reg barS] (by decide) (by decide)]; rfl

theorem three (Φ : Fin 3 → sProp 𝕄) : bigSep Finset.univ Φ = iprop(Φ 0 ∗ Φ 1 ∗ Φ 2) :=
  bigSep_univ_eq_bigSepL [0, 1, 2] (by decide) (by decide) Φ

/-! ## The ghost state dealt out -/

/-- All shared semaphores, -/
def cellSet : Finset (GSem nD τ sig) := Finset.univ.map ⟨cell, cell_injective⟩
/-- and the right to the one arrival on each. -/
abbrev arrival (ck : Dev nD × Fin 3) : GSem nD τ sig × ℕ × Unit := (cell ck, 0, ())
theorem arrival_injective : Function.Injective arrival := fun _ _ h => cell_injective (congrArg Prod.fst h)
def arrivals : Finset (GSem nD τ sig × ℕ × Unit) := Finset.univ.map ⟨arrival, arrival_injective⟩

/-- The launch element: the launch's own part, the shared semaphores' rounds, and no counters yet. -/
def u₀ : UU :=
  (initOf (Pipeline.cells cfgs cellOf_inj) (Pipeline.launchToks cfgs cellOf_inj), (initOf cellSet arrivals, 1))

/-- What one device is dealt for each of its shared semaphores. -/
def dealt (ck : Dev nD × Fin 3) : sProp 𝕄 :=
  iprop(roundState ER (plan m) (cell ck) 0 ∗ atPos ER (cell ck) 0 ∅ 0 ∗ reached ER (cell ck) 0 ∗ dutyTok ER (cell ck) 0 ())
def G (c : Dev nD) : sProp 𝕄 := bigSep Finset.univ fun k : Fin 3 => dealt m (c, k)

theorem deal : BI.own (ER (initOf cellSet arrivals)) ⊢ (|==> bigSep Finset.univ (G m) : sProp 𝕄) := by
  have hX (Φ : GSem nD τ sig → sProp 𝕄) : bigSep cellSet Φ = bigSep Finset.univ fun ck : Dev nD × Fin 3 => Φ (cell ck) := by
    unfold cellSet; rw [bigSep_map]; rfl
  have hT : bigSep arrivals (fun x => (dutyTok ER x.1 x.2.1 x.2.2 : sProp 𝕄)) = bigSep Finset.univ fun ck : Dev nD × Fin 3 => dutyTok ER (cell ck) 0 () := by
    unfold arrivals; rw [bigSep_map]; rfl
  have hG : bigSep Finset.univ (G (F := F) m) = bigSep Finset.univ fun ck : Dev nD × Fin 3 => dealt m ck := (bigSep_univ_prod _).symm
  rw [hG]
  iintro HX
  imod (Rounds.fund ER (plan m) cellSet arrivals) $$ HX with ⟨Hst, Hr, Hat, Htok⟩
  imodintro
  ihave Hst := (Entails.of_eq (hX fun g => roundState ER (plan m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt
  simp only [bigSep_sep']
  isplitl [Hst]; · iexact Hst
  isplitl [Hat]; · iexact Hat
  isplitl [Hr] <;> iassumption

/-- What a device has after the devices' shared semaphores have been put under the schedule. -/
def G' (c : Dev nD) : sProp 𝕄 := iprop((∃ K, Records m K) ∗ places c ∗ alone c)

/-- A shared semaphore put under the schedule, under some name, with what goes with it. -/
def placed (ck : Dev nD × Fin 3) : sProp 𝕄 :=
  iprop((∃ κ : ℕ, cellInv ER (plan m) κ (cell ck)) ∗ reached ER (cell ck) 0 ∗ atPos ER (cell ck) 0 ∅ 0 ∗ dutyTok ER (cell ck) 0 ())

/-- A shared semaphore, at zero and as dealt, can be put under the schedule; -/
theorem put_cell (ck : Dev nD × Fin 3) : iprop(semVal (cell ck) 0 ∗ dealt m ck) ⊢ |={Set.univ}=> placed m ck := by
  unfold dealt placed
  iintro ⟨Hv, Hst, Hat, Hr, Htok⟩
  imod ((Rounds.body_intro ER (plan m) (cell ck)).trans inv_alloc) $$ [Hv Hst] with Hinv
  · isplitl [Hv] <;> iassumption
  imodintro
  isplitl [Hinv]; · iexact Hinv
  isplitl [Hr]; · iexact Hr
  isplitl [Hat] <;> iassumption

/-- so can the three of a device. -/
theorem put_cells (c : Dev nD) :
    iprop((bigSep Finset.univ fun k : Fin 3 => semVal (cell (c, k)) 0) ∗ bigSep Finset.univ fun k : Fin 3 => dealt m (c, k))
      ⊢ |={Set.univ}=> bigSep Finset.univ fun k : Fin 3 => placed m (c, k) := by
  rw [← bigSep_sep']
  exact (bigSep_mono fun k _ => put_cell m (c, k)).trans (bigSep_fupd _ _)

/-- One device: its shared semaphores, at zero and as dealt, put under the schedule under fresh names. -/
theorem put_one (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 3 => placed m (c, k)) ∗ alone c) := by
  iintro ⟨Hos, Hbar, HG⟩
  ihave Hos := (own_sems (F := F) c).1 $$ Hos
  icases Hos with ⟨Halone, Hsend, Hrecv⟩
  ihave Hbar := (Entails.of_eq (barrier_sem (F := F) c)) $$ Hbar
  ihave Hv := (Entails.of_eq (three (F := F) fun k => semVal (cell (c, k)) 0).symm) $$ [Hbar Hsend Hrecv]
  · isplitl [Hbar]; · iexact Hbar
    isplitl [Hsend] <;> iassumption
  unfold G
  imod (put_cells m c) $$ [Hv HG] with H
  · isplitl [Hv] <;> iassumption
  imodintro
  isplitl [H] <;> iassumption

/-- The rights to the arrivals, passed to the device that makes each: those on the barrier and on the receive semaphore
    go to the peer. -/
theorem hand_out :
    iprop((bigSep Finset.univ fun c : Dev nD => bigSep Finset.univ fun k : Fin 3 => atPos ER (cell (c, k)) 0 ∅ 0)
        ∗ bigSep Finset.univ fun c : Dev nD => bigSep Finset.univ fun k : Fin 3 => dutyTok ER (cell (c, k)) 0 ())
      ⊢ (bigSep Finset.univ fun c : Dev nD => places c : sProp 𝕄) := by
  unfold places
  simp only [three, bigSep_sep']
  rw [bigSep_univ_equiv swap (fun c : Dev nD => (dutyTok ER (cell (c, 0)) 0 () : sProp 𝕄)),
    bigSep_univ_equiv swap (fun c : Dev nD => (dutyTok ER (cell (c, 2)) 0 () : sProp 𝕄))]
  iintro ⟨⟨Ha0, Ha1, Ha2⟩, Ht0, Ht1, Ht2⟩
  isplitl [Ha0]; · iexact Ha0
  isplitl [Ha1]; · iexact Ha1
  isplitl [Ha2]; · iexact Ha2
  isplitl [Ht0]; · iexact Ht0
  isplitl [Ht2]; · iexact Ht2
  iexact Ht1

/-- All devices' records put together, and each device's places handed to it. -/
theorem gather_all :
    (bigSep Finset.univ fun c : Dev nD => iprop((bigSep Finset.univ fun k : Fin 3 => placed m (c, k)) ∗ alone c) : sProp 𝕄) ⊢ bigSep Finset.univ (G' m) := by
  unfold placed
  simp only [bigSep_sep']
  rw [← bigSep_univ_prod (fun ck : Dev nD × Fin 3 => iprop(∃ κ : ℕ, cellInv ER (plan m) κ (cell ck))),
    ← bigSep_univ_prod (fun ck : Dev nD × Fin 3 => (reached ER (cell ck) 0 : sProp 𝕄))]
  iintro ⟨⟨HI, #HR, Hat, Htok⟩, Halone⟩
  ihave HK := (BI.bigSep_exists_pi Finset.univ (fun (ck : Dev nD × Fin 3) (κ : ℕ) => (cellInv ER (plan m) κ (cell ck) : sProp 𝕄))) $$ HI
  icases HK with ⟨%K, #HI⟩
  ihave Hp := (hand_out (F := F)) $$ [Hat Htok]
  · isplitl [Hat] <;> iassumption
  unfold G'
  rw [bigSep_sep', bigSep_sep']
  isplitr [Hp Halone]
  · iapply (BI.bigSep_of_persistent Finset.univ (iprop(∃ K, Records m K) : sProp 𝕄))
    iexists K
    unfold Records
    isplitr; · iexact HI
    iexact HR
  · isplitl [Hp] <;> iassumption

/-- The step all devices take together at launch. -/
theorem put_all : (bigSep Finset.univ fun c => iprop(Pipeline.ownSems0 (Ix := Unit) (Name := ℕ) (U := UU) (Lvl := ℕ) (Val := Elt F) (τ := τ) osem c
      ∗ unscopedSems0 c ∗ G m c) : sProp 𝕄) ⊢ |={Set.univ}=> bigSep Finset.univ (G' m) :=
  ((bigSep_mono fun c _ => put_one m c).trans (bigSep_fupd _ _)).trans (BI.fupd_mono (gather_all m))

/-! ## The credit dealt out -/

theorem cell_eq_iff {a b : Dev nD} {k : Fin 3} : Iff (cell (a, k) = cell (b, k)) (a = b) :=
  ⟨fun h => congrArg Prod.fst (cell_injective h), fun h => h ▸ rfl⟩

theorem peer_eq_iff {a b : Dev nD} : Iff (a = peer b) (b = peer a) :=
  ⟨fun h => by rw [h, peer_peer], fun h => by rw [h, peer_peer]⟩

/-- A device's barrier is owed one unit, by its peer; -/
theorem owed_bar (d c : Dev nD) : owed₀ d (barCell c) () = if d = peer c then 1 else 0 := by
  unfold owed₀
  rw [Pi.add_apply, Finsupp.add_apply, tallyAt_ne_cell (fun h => recv_ne_bar (congrArg Prod.snd h).symm), tallyAt_apply, Finsupp.zero_apply, Nat.zero_add]
  exact if_congr ((and_iff_left rfl).trans (cell_eq_iff.trans peer_eq_iff)) rfl rfl

/-- its receive semaphore a row's credit, by its peer. -/
theorem owed_recv (d c : Dev nD) : owed₀ d (recvCell c) () = if d = peer c then N else 0 := by
  unfold owed₀
  rw [Pi.add_apply, Finsupp.add_apply, tallyAt_apply, tallyAt_ne_cell (fun h => recv_ne_bar (congrArg Prod.snd h)), Finsupp.zero_apply, Nat.add_zero]
  exact if_congr ((and_iff_left rfl).trans (cell_eq_iff.trans peer_eq_iff)) rfl rfl

/-- A semaphore that exactly the peer owes `n` is waited for with credit `n`. -/
theorem credit_of (c : Dev nD) (sm : SemLoc sig) (n : ℕ) (h : ∀ d, owed₀ d ((c : Thread nD τ), sm) () = if d = peer c then n else 0) :
    tallyOn ((c : Thread nD τ), sm) (launchCredit (Pipeline.owing owed₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (peer c) fun _ => n,
    if_pos (Finset.mem_univ _)]

theorem credits (c : Dev nD) :
    (Pipeline.launchCred owed₀ c : sProp 𝕄) ⊢ iprop(cred (tallyAt (barCell c) () 1) ∗ cred (tallyAt (recvCell c) () N)) := by
  unfold Pipeline.launchCred
  rw [bigSep_univ_at _ (SemLoc.reg barS), credit_of c (.reg barS) 1 fun d => owed_bar d c]
  refine sep_mono_right ?_
  rw [← credit_of c (.dma recvS) N fun d => owed_recv d c]
  exact bigSep_elim (Finset.mem_erase.mpr ⟨recv_ne_bar, Finset.mem_univ _⟩)

/-! ## Into and out of the body -/

theorem into_start (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(Start m c ∗ emp) := by
  rw [show (Pipeline.unscopedRestP Pipeline.Prefetch.none cfg0.spec c (fun b => m ((c : Thread nD τ).loc b)) : sProp 𝕄)
      = iprop((((c : Thread nD τ).loc main_arg0) ↦{fullShare} m ((c : Thread nD τ).loc main_arg0))
          ∗ (((c : Thread nD τ).loc main_v1) ↦{fullShare} m ((c : Thread nD τ).loc main_v1))) from
    (Pipeline.unscopedRestP_none _ _ _).trans (unscopedRest0_eq c _)]
  unfold G' Start arrays awaited
  iintro ⟨⟨Hx, Ho⟩, Hlev, Hcr, -, HR, Hp, Ha⟩
  ihave Hc := (credits (F := F) c) $$ Hcr
  icases Hc with ⟨H1, HN⟩
  imodintro
  isplitl
  · isplitl [HR]; · iexact HR
    isplitl [Hp]; · iexact Hp
    isplitl [Ha]; · iexact Ha
    isplitr [Hx Ho]
    · isplitl [H1]; · iexact H1
      isplitl [HN] <;> iassumption
    · isplitl [Hx] <;> iassumption
  · iempintro

theorem into_body (c : Dev nD) :
    iprop(Start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(Start m c ∗ scratch c) from rfl, scopedRest0_eq]
  unfold scratch
  iintro ⟨Hs, -, Hr⟩
  isplitl [Hs] <;> iassumption

theorem out_of_body (c : Dev nD) :
    (dats m 0 c).Φ (Fin.last cfg0.N)
      ⊢ iprop((arrays m c (total m c) ∗ unscopedSems0 c) ∗ Pipeline.ownSems0 osem c ∗ Pipeline.scopedRest cfg0.spec c) := by
  rw [show (dats m 0 c).Φ (Fin.last cfg0.N) = After m c from rfl, scopedRest0_eq, barrier_sem]
  unfold After scratch
  iintro ⟨Harr, Hs, Halone, HB, HS, HV⟩
  isplitl [Harr HB]
  · isplitl [Harr] <;> iassumption
  isplitl [Halone HS HV]
  · iapply (own_sems (F := F) c).2
    isplitl [Halone]; · iexact Halone
    isplitl [HS] <;> iassumption
  iexact Hs

/-- What the memory of the final state shows of device `c`. -/
def Final (c : Dev nD) (s : MemSt nD τ sig (Elt F)) : Prop :=
  (s.mem ((c : Thread nD τ).loc main_arg0) = m ((c : Thread nD τ).loc main_arg0) ∧ s.mem ((c : Thread nD τ).loc main_v1) = total m c)
    ∧ ∀ sm : SemLoc sig, sm.isScoped .tc = false → s.sem ((c.tc : Thread nD τ), sm) = 0

theorem read_final (c : Dev nD) (s' : Phys nD τ sig (Elt F)) :
    iprop((arrays m c (total m c) ∗ unscopedSems0 c) ∗ emp ∗ SI s') ⊢ |={Set.univ}=> iprop(⌜Final m c s'.mem⌝ ∗ SI s') := by
  unfold arrays
  iintro ⟨⟨⟨Hx, Ho⟩, Hu⟩, -, HSI⟩
  icombine HSI Hx gives %hx
  icombine HSI Ho gives %ho
  imod (Pipeline.unscopedSems0_read (X := unscopedSems0 c) (c := c) fupd_intro s') $$ [Hu HSI] with ⟨%hs, HSI⟩
  · isplitl [Hu] <;> iassumption
  imodintro
  isplitr
  · ipureintro; exact ⟨⟨funext fun i => hx i (Finset.mem_univ i), funext fun i => ho i (Finset.mem_univ i)⟩, hs⟩
  · iexact HSI

theorem no_cells_waited (c : Dev nD) : (levAts L lv : sProp 𝕄) ⊢ Pipeline.cellsWaits cfgs (dats m) () 0 c :=
  Pipeline.cellsWaits_intro cfgs (dats m) () 0 c fun w s t => w.elim0

/-! ## The run -/

set_option maxRecDepth 8000 in
/-- From any memory with zero counters, on four devices, for any float values: every fair run of the program ends, with
    each device's block of `x` as it was, its block of the result at `total`, and every counter at zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0) ∧ r.2.mem ((c : Thread nD τ).loc main_v1) = total m c)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := owed₀) (howed₀ := fun _ => rfl) (howedN := fun _ => rfl)
    (L := L) (lv := lv) (hL := L_of_ne) (hwaits := no_cells_waited m)
    (G := G m) (G' := G' m) (u₀ := u₀)
    (hu₀ := by
      unfold u₀
      iintro Hu
      ihave H := (ownU_pair _ _) $$ Hu
      icases H with ⟨HP, HX⟩
      ihave H := (own_pair_emb _ _ _) $$ HX
      icases H with ⟨HX, -⟩
      imod (show BI.own (((Emb.inl : Emb UB (UB × Counters)).trans embR : Emb UB 𝕄) (initOf cellSet arrivals)) ⊢ (|==> bigSep Finset.univ (G m) : sProp 𝕄) from deal m) $$ HX with HG
      imodintro
      isplitl [HP] <;> iassumption)
    (hglob := put_all m)
    (hA := fun _ w => w.elim0) (hpf := fun _ k => k.elim0)
    (X := Start m) (Y := fun c => iprop(arrays m c (total m c) ∗ unscopedSems0 c)) (Z := fun _ => iprop(emp))
    (hX := into_start m ρ) (hin := into_body m) (hout := out_of_body m)
    (QY := Final m) (hY := read_final m)
    (hQ := fun _ h hs => ⟨fun c => (h c).2.2.1, sem_eq_zero hs fun c => (h c).2.2.2⟩)

end Cert.ColumnSum

end
-- ==== Proof.Sums.lean ====
/-
What the run computes over the extended reals: sums of columns.

`part`, the row a device sends, is at column `j` the sum of column `j` of the device's block: four groups of 384 rows
added in order are its 1536 rows. `total`, the row it ends with, adds to that the same sum of its peer's block.
-/
module

public import proofs.«01_k».proof.Proof.Contents
public import Idealize.ShloMosaic.PureOps.Ideal.Laws
public import Idealize.ShloMosaic.Lib.ValueIdx
public import Idealize.ShloMosaic.Lib.ValueLayout

@[expose] public section

noncomputable section

open scoped BigOperators

namespace Cert.ColumnSum

open Cert.KernelIdeal Cert.KernelIdeal.Gen
open Idealize.ShloMosaic Idealize.ShloMosaic.TcCoe Idealize.ShloMosaic.ValueIdx

/-! ## Sums over consecutive rows -/

/-- A sum over the 1536 rows of a block, by groups of 384. -/
theorem sum_groups {M : Type*} [AddCommMonoid M] (f : Fin 1536 → M) :
    ∑ r : Fin 1536, f r
      = (((∑ r : Fin 384, f ⟨0 + r.val, by omega⟩) + ∑ r : Fin 384, f ⟨384 + r.val, by omega⟩)
          + ∑ r : Fin 384, f ⟨768 + r.val, by omega⟩) + ∑ r : Fin 384, f ⟨1152 + r.val, by omega⟩ := by
  refine (Fin.sum_univ_add (a := 1152) (b := 384) f).trans (congrArg₂ (· + ·) ?_ rfl)
  refine (Fin.sum_univ_add (a := 768) (b := 384) _).trans (congrArg₂ (· + ·) ?_ rfl)
  refine (Fin.sum_univ_add (a := 384) (b := 384) _).trans (congrArg₂ (· + ·) ?_ rfl)
  exact Finset.sum_congr rfl fun r _ => congrArg f (Fin.ext (Nat.zero_add r.val).symm)

/-- A sum over the 3072 rows of the whole array, by its two halves. -/
theorem sum_halves {M : Type*} [AddCommMonoid M] (f : Fin 3072 → M) :
    ∑ r : Fin 3072, f r = (∑ r : Fin 1536, f ⟨r.val, by omega⟩) + ∑ r : Fin 1536, f ⟨1536 + r.val, by omega⟩ :=
  Fin.sum_univ_add (a := 1536) (b := 1536) f

/-! ## One row group -/

variable (m : (ℓ : Loc nD τ sig) → Buf (Elt Ideal) ℓ)

/-- Device `c`'s block of `x`. -/
abbrev block (c : Dev nD) : S1536x768.Idx → EReal := m ((c : Thread nD τ).loc main_arg0)

/-- The rows copied from row `o` on: row `r` of them is row `o + r` of the block. -/
theorem rows_apply (c : Dev nD) (o : ℕ) (ho : o + 384 ≤ 1536) (h : ∀ a, (![o, 0] : Fin 2 → ℕ) a + S384x768.size a ≤ S1536x768.size a)
    (r : Fin 384) (j : Fin 768) : rows m c ![o, 0] h (ix2 r j) = block m c (ix2 ⟨o + r.val, by omega⟩ j) := by
  refine congrArg (block m c) (funext fun a => Fin.ext ?_)
  match a with
  | ⟨0, _⟩ => show o + 1 * r.val = o + r.val; omega
  | ⟨1, _⟩ => show 0 + 1 * j.val = j.val; omega

/-- A slab reduced over its rows gives, at column `j`, the sum of the column over the slab's 384 rows. -/
theorem slab_sum (c : Dev nD) (o : ℕ) (ho : o + 384 ≤ 1536) (h : ∀ a, (![o, 0] : Fin 2 → ℕ) a + S384x768.size a ≤ S1536x768.size a)
    (j : Fin 768) :
    (multiReduction .add [0] S768 (shapeCast S384x768 (slab m c ![o, 0] h) shapeCasts_S1x384x768_S384x768) 0x00000000#32
      reduces_S384x768_S768 (.inl rfl) rfl : FVec Ideal S768 .f32) (ix1 j)
      = ∑ r : Fin 384, block m c (ix2 ⟨o + r.val, by omega⟩ j) := by
  refine (Ideal.multiReduction_add_single _ _ _ _ _ _).trans (Finset.sum_congr rfl fun r _ => ?_)
  refine Eq.trans ?_ (rows_apply m c o ho h r j)
  unfold slab
  rw [shapeCast_shapeCast]
  refine congrArg (rows m c ![o, 0] h) (funext fun a => Fin.ext ?_)
  match a with
  | ⟨0, _⟩ => rfl
  | ⟨1, _⟩ => rfl

/-! ## The accumulator -/

/-- A row of 768 numbers as a 1 × 768 array, and back, at a column. -/
theorem row_apply (v : FVec Ideal S768 .f32) (j : Fin 768) : shapeCast S1x768 v shapeCasts_S768_S1x768 (ix2 0 j) = v (ix1 j) :=
  shapeCast_a_1a_apply v _ 0 j
theorem flat_apply (v : FVec Ideal S1x768 .f32) (j : Fin 768) : shapeCast S768 v shapeCasts_S1x768_S768 (ix1 j) = v (ix2 0 j) :=
  shapeCast_1a_a_apply v _ j
/-- Two rows of 768 numbers added, as a 1 × 768 array, at a column. -/
theorem row_add (u v : FVec Ideal S768 .f32) (j : Fin 768) {x y : EReal} (hu : u (ix1 j) = x) (hv : v (ix1 j) = y) :
    shapeCast S1x768 (addf u v) shapeCasts_S768_S1x768 (ix2 0 j) = x + y :=
  ((row_apply _ j).trans (addf_apply u v (ix1 j))).trans (congrArg₂ (fun a b : EReal => a + b) hu hv)

/-- After the first group the accumulator holds the sums over the first 384 rows, -/
theorem acc1_apply (c : Dev nD) (j : Fin 768) : acc1 m c (ix2 0 j) = ∑ r : Fin 384, block m c (ix2 ⟨0 + r.val, by omega⟩ j) :=
  (row_apply _ j).trans (slab_sum m c 0 (by omega) _ j)

/-- the second group adds the next 384, -/
theorem acc2_apply (c : Dev nD) (j : Fin 768) :
    acc2 m c (ix2 0 j) = acc1 m c (ix2 0 j) + ∑ r : Fin 384, block m c (ix2 ⟨384 + r.val, by omega⟩ j) :=
  row_add _ _ j (flat_apply _ j) (slab_sum m c 384 (by omega) _ j)

/-- so does the third, -/
theorem acc3_apply (c : Dev nD) (j : Fin 768) :
    acc3 m c (ix2 0 j) = acc2 m c (ix2 0 j) + ∑ r : Fin 384, block m c (ix2 ⟨768 + r.val, by omega⟩ j) :=
  row_add _ _ j (flat_apply _ j) (slab_sum m c 768 (by omega) _ j)

/-- and the fourth. -/
theorem part_step (c : Dev nD) (j : Fin 768) :
    part m c (ix2 0 j) = acc3 m c (ix2 0 j) + ∑ r : Fin 384, block m c (ix2 ⟨1152 + r.val, by omega⟩ j) :=
  row_add _ _ j (flat_apply _ j) (slab_sum m c 1152 (by omega) _ j)

/-- The row a device sends holds the sums of its block's columns. -/
theorem part_apply (c : Dev nD) (j : Fin 768) : part m c (ix2 0 j) = ∑ r : Fin 1536, block m c (ix2 r j) := by
  rw [part_step, acc3_apply, acc2_apply, acc1_apply]
  exact (sum_groups fun r => block m c (ix2 r j)).symm

/-- The row a device ends with: the sums of its block's columns plus those of its peer's. -/
theorem total_apply (c : Dev nD) (j : Fin 768) :
    total m c (ix2 0 j) = (∑ r : Fin 1536, block m c (ix2 r j)) + ∑ r : Fin 1536, block m (peer c) (ix2 r j) :=
  row_add _ _ j ((flat_apply _ j).trans (part_apply m c j)) ((flat_apply _ j).trans (part_apply m (peer c) j))

end Cert.ColumnSum

end
-- ==== Proof.Reference.lean ====
/-
What the reference computes over the extended reals: at column `j`, the sum of column `j` of the whole array.
-/
module

public import proofs.«01_k».proof.Proof.Gen.ReferenceIdeal
public import proofs.«01_k».proof.Proof.Gen.ReferenceIdeal.Run
public import Idealize.ShloMosaic.PureOps.Ideal.Laws
public import Idealize.ShloMosaic.Lib.IdealHost
public import Idealize.ShloMosaic.Lib.ValueIdx

@[expose] public section

noncomputable section

open scoped BigOperators

namespace Cert.ColumnSum

open Cert.ReferenceIdeal Cert.ReferenceIdeal.Gen
open Idealize.ShloMosaic Idealize.ShloMosaic.ValueIdx

/-- The reference's result as a function of the whole array: its rows summed, as a 1 × 1536 array. -/
def expected (X : FVec Ideal S3072x1536 .f32) : FVec Ideal S1x1536 .f32 :=
  broadcastInDim S1x1536 ![1] bcast_S1536_S1x1536_1
    (Host.reduceAdd X (constant S_ .f32 0x00000000#32) reducesTo_S3072x1536_S1536_d0 h_S_)

/-- Dropping the first axis of the whole array leaves its columns. -/
theorem reduces_columns : S3072x1536.Reduces [0] S1536 := by decide

/-- The reference's result at column `j` is the sum of that column over all 3072 rows. -/
theorem expected_apply (X : FVec Ideal S3072x1536 .f32) (j : Fin 1536) :
    expected X (ix2 0 j) = ∑ r : Fin 3072, X (ix2 r j) := by
  have at_column : expected X (ix2 0 j)
      = Ideal.hostReduceAdd reducesTo_S3072x1536_S1536_d0 X (Ideal.ofBits .f32 0x00000000#32) (ix1 j) := by
    refine congrArg (Host.reduceAdd X (constant S_ .f32 0x00000000#32) reducesTo_S3072x1536_S1536_d0 h_S_) (funext fun a => Fin.ext ?_)
    match a with
    | ⟨0, _⟩ => rfl
  rw [at_column, Ideal.hostReduceAdd_single _ reduces_columns, Ideal.ofBits_zero_f32, zero_add]
  refine Finset.sum_congr rfl fun r _ => congrArg X (funext fun a => Fin.ext ?_)
  match a with
  | ⟨0, _⟩ => rfl
  | ⟨1, _⟩ => rfl

end Cert.ColumnSum

end
-- ==== Proof.Equation.lean ====
/-
The two results agree.

Device `c` of the 2 × 2 mesh has coordinates `(c / 2, c % 2)`: its block of `x` is rows 1536·(c / 2) … and columns
768·(c % 2) … of the whole array, and its block of the result is columns 768·(c % 2) … of the whole result. Its peer
has the other rows of the same columns, so the two blocks' column sums add to the whole array's.
-/
module

public import proofs.«01_k».proof.Proof.Sums
public import proofs.«01_k».proof.Proof.Reference
public import Idealize.ShloMosaic.Lib.Layout

@[expose] public section

noncomputable section

open scoped BigOperators

namespace Cert.ColumnSum

open Cert.KernelIdeal Cert.KernelIdeal.Gen
open Idealize.ShloMosaic Idealize.ShloMosaic.TcCoe Idealize.ShloMosaic.ValueIdx

/-! ## The blocks of the mesh -/

/-- Device `c`'s block of a whole `x`. -/
abbrev blockOf (X : Cert.ReferenceIdeal.S3072x1536.Idx → EReal) (c : Dev nD) : S1536x768.Idx → EReal :=
  Layout.blockN ⟨2, ![1536, 768]⟩ ⟨2, ![3072, 1536]⟩ (Layout.meshBlock [2, 2] ![[0], [1]] c) X

/-- Where device `c`'s row block and column block are, -/
theorem block_row (c : Dev nD) : ((Layout.meshBlock [2, 2] ![[0], [1]] c) 0).val = c.val / 2 := by revert c; decide
theorem block_column (c : Dev nD) : ((Layout.meshBlock [2, 2] ![[0], [1]] c) 1).val = c.val % 2 := by revert c; decide
/-- and its column block of the result. -/
theorem result_row (c : Dev nD) : ((Layout.meshBlock [2, 2] ![[], [1]] c) 0).val = 0 := by revert c; decide
theorem result_column (c : Dev nD) : ((Layout.meshBlock [2, 2] ![[], [1]] c) 1).val = c.val % 2 := by revert c; decide

/-- Column `j` of device `c`'s blocks, as a column of the whole arrays. -/
def column (c : Dev nD) (j : Fin 768) : Fin 1536 := ⟨c.val % 2 * 768 + j.val, by omega⟩

/-- Row `r`, column `j` of device `c`'s block is row 1536·(c / 2) + r of the whole array, at that column. -/
theorem blockOf_apply (X : Cert.ReferenceIdeal.S3072x1536.Idx → EReal) (c : Dev nD) (r : Fin 1536) (j : Fin 768)
    (R : Fin 3072) (hR : R.val = c.val / 2 * 1536 + r.val) : blockOf X c (ix2 r j) = X (ix2 R (column c j)) := by
  refine congrArg X (funext fun a => Fin.ext ?_)
  match a with
  | ⟨0, _⟩ =>
    show ((Layout.meshBlock [2, 2] ![[0], [1]] c) 0).val * 1536 + r.val = R.val
    rw [block_row, hR]
  | ⟨1, _⟩ =>
    show ((Layout.meshBlock [2, 2] ![[0], [1]] c) 1).val * 768 + j.val = c.val % 2 * 768 + j.val
    rw [block_column]

/-- A device's block of a whole result at column `j`. -/
theorem result_apply (v : Cert.ReferenceIdeal.S1x1536.Idx → EReal) (c : Dev nD) (j : Fin 768) :
    (Layout.blockN ⟨2, ![1, 768]⟩ ⟨2, ![1, 1536]⟩ (Layout.meshBlock [2, 2] ![[], [1]] c) v : S1x768.Idx → EReal) (ix2 0 j) = v (ix2 0 (column c j)) := by
  refine congrArg v (funext fun a => Fin.ext ?_)
  match a with
  | ⟨0, _⟩ =>
    show ((Layout.meshBlock [2, 2] ![[], [1]] c) 0).val * 1 + 0 = 0
    rw [result_row]
  | ⟨1, _⟩ =>
    show ((Layout.meshBlock [2, 2] ![[], [1]] c) 1).val * 768 + j.val = c.val % 2 * 768 + j.val
    rw [result_column]

/-! ## A device's columns and its peer's -/

/-- The peer has the same columns. -/
theorem column_peer (c : Dev nD) (j : Fin 768) : column (peer c) j = column c j :=
  Fin.ext (congrArg (fun n => n * 768 + j.val) (show (c.val + 2) % 4 % 2 = c.val % 2 by omega))

/-- A column of a device in the upper half of the rows, -/
theorem upper_sum (X : Cert.ReferenceIdeal.S3072x1536.Idx → EReal) (c : Dev nD) (hc : c.val / 2 = 0) (j : Fin 768) :
    ∑ r : Fin 1536, blockOf X c (ix2 r j) = ∑ r : Fin 1536, X (ix2 ⟨r.val, by omega⟩ (column c j)) :=
  Finset.sum_congr rfl fun r _ => blockOf_apply X c r j _ (by rw [hc]; exact (Nat.zero_add _).symm)

/-- and of one in the lower half. -/
theorem lower_sum (X : Cert.ReferenceIdeal.S3072x1536.Idx → EReal) (c : Dev nD) (hc : c.val / 2 = 1) (j : Fin 768) :
    ∑ r : Fin 1536, blockOf X c (ix2 r j) = ∑ r : Fin 1536, X (ix2 ⟨1536 + r.val, by omega⟩ (column c j)) :=
  Finset.sum_congr rfl fun r _ => blockOf_apply X c r j _ (by rw [hc])

/-- A column of a device's block and of its peer's are together that column of the whole array. -/
theorem pair_sum (X : Cert.ReferenceIdeal.S3072x1536.Idx → EReal) (c : Dev nD) (j : Fin 768) :
    (∑ r : Fin 1536, blockOf X c (ix2 r j)) + ∑ r : Fin 1536, blockOf X (peer c) (ix2 r j)
      = ∑ R : Fin 3072, X (ix2 R (column c j)) := by
  have hp : (peer c).val = (c.val + 2) % 4 := rfl
  have hlt : c.val < 4 := c.isLt
  rw [sum_halves fun R => X (ix2 R (column c j))]
  rcases (show c.val / 2 = 0 ∨ c.val / 2 = 1 by omega) with hc | hc
  · rw [upper_sum X c hc, lower_sum X (peer c) (by omega), column_peer]
  · rw [lower_sum X c hc, upper_sum X (peer c) (by omega), column_peer]
    exact add_comm _ _

/-! ## The equation -/

/-- If every device's block of `x` is its part of a whole `X`, every device's result is its part of the reference's. -/
theorem total_eq (m : (ℓ : Loc nD τ sig) → Buf (Elt Ideal) ℓ) (X : Cert.ReferenceIdeal.S3072x1536.Idx → EReal)
    (hX : ∀ c : Dev nD, block m c = blockOf X c) (c : Dev nD) :
    total m c = Layout.blockN ⟨2, ![1, 768]⟩ ⟨2, ![1, 1536]⟩ (Layout.meshBlock [2, 2] ![[], [1]] c) (expected X) := by
  funext i
  obtain ⟨j, rfl⟩ : ∃ j : Fin 768, i = ix2 0 j :=
    ⟨i 1, (eq_ix2 i).trans (congrArg (fun u : Fin 1 => (ix2 u (i 1) : S1x768.Idx)) (Subsingleton.elim _ _))⟩
  rw [total_apply, hX c, hX (peer c), pair_sum]
  exact ((result_apply (expected X) c j).trans (expected_apply X (column c j))).symm

end Cert.ColumnSum

end
-- ==== Proof.lean ====
/-
The proof of `Cert.Claim`, assembled: the runs (Launch.lean and the generated run of the reference) with the equation of
their results (Equation.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem
open Cert.ColumnSum

/-! ## Every run ends, with `x` as it was and the counters at zero -/

/-- The kernel on the hardware's floats. Its text is the idealized kernel's, so the run over any float values is its run. -/
theorem frame_kernel : Cert.quiescent_Kernel := fun m ρ _ =>
  (θ_run Cert.KernelIdeal.defs _ _).mono (fun _ h => ⟨fun c => (h.1 c).1, h.2⟩) (run_main (F := Bits) m ρ)

/-- The kernel on extended reals. -/
theorem frame_ideal : Cert.quiescent_KernelIdeal := fun m ρ _ =>
  (θ_run Cert.KernelIdeal.defs _ _).mono (fun _ h => ⟨fun c => (h.1 c).1, h.2⟩) (run_main (F := Ideal) m ρ)

/-- The reference. It has no semaphores at all. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The value -/

/-- Where every device holds its block of the reference's `x`, every device ends with its block of the reference's result. -/
theorem value : Cert.algebraic_KernelIdeal_ReferenceIdeal := fun m ρ m' ρ' _ hx =>
  ⟨expected (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).2.trans (total_eq m _ hx c), (h.1 c).1⟩) (run_main (F := Ideal) m ρ),
    (θ_run Cert.ReferenceIdeal.defs _ _).mono (fun _ h => h 0) (Cert.ReferenceIdeal.Value.run (F := Ideal) m' ρ')⟩

/-- All five claims. -/
theorem claim : Cert.Claim := ⟨Cert.Kernel.Gen.facts, Cert.KernelIdeal.Gen.facts, Cert.ReferenceIdeal.Gen.facts,
  frame_kernel, frame_ideal, frame_reference, trivial, value⟩

end Cert.Proof

end
